-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "sm_log2e" .f32 0x3E38AA3B#32 ((8⁻¹ * (Real.log 2)⁻¹ : ℝ) : EReal)

def preserves_Reference_ReferenceIdeal : Prop :=
  IdealRules.named_const.Statement Cert.ReferenceIdeal.κ "inv_ln2" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v3)) (v5 : (c : Dev Cert.KernelIdeal.nD) → Buf (Elt Ideal) ((c.tc : Thread Cert.KernelIdeal.nD Cert.KernelIdeal.τ).loc Cert.KernelIdeal.main_v13)) (v6 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_v13) = v5 c
          ∧ r.2.mem ((c.tc : Thread Cert.KernelIdeal.nD Cert.KernelIdeal.τ).loc Cert.KernelIdeal.main_v4) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S2x32768x512 : Shape := ⟨3, ![2, 32768, 512]⟩
abbrev S2x32768x64 : Shape := ⟨3, ![2, 32768, 64]⟩
abbrev S2x64x32768 : Shape := ⟨3, ![2, 64, 32768]⟩
abbrev S2x256x128 : Shape := ⟨3, ![2, 256, 128]⟩
abbrev S1x64x2048 : Shape := ⟨3, ![1, 64, 2048]⟩
abbrev S1x2048x64 : Shape := ⟨3, ![1, 2048, 64]⟩
abbrev S1x16x128 : Shape := ⟨3, ![1, 16, 128]⟩
abbrev S1x64x128 : Shape := ⟨3, ![1, 64, 128]⟩
abbrev S64x128 : Shape := ⟨2, ![64, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S128x64 : Shape := ⟨2, ![128, 64]⟩
abbrev S1x128x64 : Shape := ⟨3, ![1, 128, 64]⟩
abbrev S1x1x128 : Shape := ⟨3, ![1, 1, 128]⟩
abbrev S2x256x1 : Shape := ⟨3, ![2, 256, 1]⟩
abbrev S2x256 : Shape := ⟨2, ![2, 256]⟩
abbrev S2x512x32768 : Shape := ⟨3, ![2, 512, 32768]⟩
abbrev S2x256x8x128 : Shape := ⟨4, ![2, 256, 8, 128]⟩
abbrev S1x128x512 : Shape := ⟨3, ![1, 128, 512]⟩
abbrev S1x32768x64 : Shape := ⟨3, ![1, 32768, 64]⟩
abbrev S1x64x32768 : Shape := ⟨3, ![1, 64, 32768]⟩
abbrev S1x512x128 : Shape := ⟨3, ![1, 512, 128]⟩
abbrev S1x1x8x128 : Shape := ⟨4, ![1, 1, 8, 128]⟩
abbrev S64x1024 : Shape := ⟨2, ![64, 1024]⟩
abbrev S128x512 : Shape := ⟨2, ![128, 512]⟩
abbrev S512x128 : Shape := ⟨2, ![512, 128]⟩
abbrev S1x1x1x128 : Shape := ⟨4, ![1, 1, 1, 128]⟩
abbrev S1x1024 : Shape := ⟨2, ![1, 1024]⟩
abbrev S128x1024 : Shape := ⟨2, ![128, 1024]⟩
abbrev S1024 : Shape := ⟨1, ![1024]⟩
abbrev S2x8x64x32768 : Shape := ⟨4, ![2, 8, 64, 32768]⟩
abbrev S2x32768x8x64 : Shape := ⟨4, ![2, 32768, 8, 64]⟩
abbrev S2x32768x1x64 : Shape := ⟨4, ![2, 32768, 1, 64]⟩
abbrev S2x256x8x1 : Shape := ⟨4, ![2, 256, 8, 1]⟩
abbrev S2x256x8 : Shape := ⟨3, ![2, 256, 8]⟩

abbrev nBuf : Space → Nat
  | .hbm => 25
  | .vmem => 27
  | .smem => 2
  | _ => 0

abbrev bufTy : (tb : Table) → Fin (tcTables nBuf tb) → BufTy
  | .hbm, ⟨0, _⟩ => ⟨S2x32768x512, .bf16⟩
  | .hbm, ⟨1, _⟩ => ⟨S2x32768x64, .bf16⟩
  | .hbm, ⟨2, _⟩ => ⟨S2x32768x64, .bf16⟩
  | .hbm, ⟨3, _⟩ => ⟨S2x64x32768, .bf16⟩
  | .hbm, ⟨4, _⟩ => ⟨S2x64x32768, .bf16⟩
  | .hbm, ⟨5, _⟩ => ⟨S2x32768x64, .fp8e4m3⟩
  | .hbm, ⟨6, _⟩ => ⟨S2x64x32768, .fp8e4m3⟩
  | .hbm, ⟨7, _⟩ => ⟨S2x64x32768, .fp8e4m3⟩
  | .hbm, ⟨8, _⟩ => ⟨S2x256x128, .f32⟩
  | .hbm, ⟨9, _⟩ => ⟨S2x256x128, .f32⟩
  | .hbm, ⟨10, _⟩ => ⟨S2x256x1, .f32⟩
  | .hbm, ⟨11, _⟩ => ⟨S2x256x1, .f32⟩
  | .hbm, ⟨12, _⟩ => ⟨S2x256, .f32⟩
  | .hbm, ⟨13, _⟩ => ⟨S2x256, .f32⟩
  | .hbm, ⟨14, _⟩ => ⟨S2x32768x512, .bf16⟩
  | .hbm, ⟨15, _⟩ => ⟨S2x512x32768, .fp8e4m3⟩
  | .hbm, ⟨16, _⟩ => ⟨S2x256x8x128, .f32⟩
  | .hbm, ⟨17, _⟩ => ⟨S2x8x64x32768, .fp8e4m3⟩
  | .hbm, ⟨18, _⟩ => ⟨S2x32768x8x64, .fp8e4m3⟩
  | .hbm, ⟨19, _⟩ => ⟨S2x32768x64, .fp8e4m3⟩
  | .hbm, ⟨20, _⟩ => ⟨S2x32768x1x64, .fp8e4m3⟩
  | .hbm, ⟨21, _⟩ => ⟨S2x32768x64, .fp8e4m3⟩
  | .hbm, ⟨22, _⟩ => ⟨S2x32768x1x64, .fp8e4m3⟩
  | .hbm, ⟨23, _⟩ => ⟨S2x256x8x1, .f32⟩
  | .hbm, ⟨24, _⟩ => ⟨S2x256x8, .f32⟩
  | .local _ .vmem, ⟨0, _⟩ => ⟨S1x64x2048, .bf16⟩
  | .local _ .vmem, ⟨1, _⟩ => ⟨S1x64x2048, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x2048x64, .fp8e4m3⟩
  | .local _ .vmem, ⟨5, _⟩ => ⟨S1x2048x64, .fp8e4m3⟩
  | .local _ .vmem, ⟨6, _⟩ => ⟨S1x64x2048, .fp8e4m3⟩
  | .local _ .vmem, ⟨7, _⟩ => ⟨S1x64x2048, .fp8e4m3⟩
  | .local _ .vmem, ⟨8, _⟩ => ⟨S1x64x2048, .fp8e4m3⟩
  | .local _ .vmem, ⟨9, _⟩ => ⟨S1x64x2048, .fp8e4m3⟩
  | .local _ .vmem, ⟨10, _⟩ => ⟨S1x16x128, .f32⟩
  | .local _ .vmem, ⟨11, _⟩ => ⟨S1x16x128, .f32⟩
  | .local _ .vmem, ⟨12, _⟩ => ⟨S1x16x128, .f32⟩
  | .local _ .vmem, ⟨13, _⟩ => ⟨S1x16x128, .f32⟩
  | .local _ .vmem, ⟨14, _⟩ => ⟨S1x128x512, .bf16⟩
  | .local _ .vmem, ⟨15, _⟩ => ⟨S1x128x512, .bf16⟩
  | .local _ .vmem, ⟨16, _⟩ => ⟨S1x32768x64, .fp8e4m3⟩
  | .local _ .vmem, ⟨17, _⟩ => ⟨S1x32768x64, .fp8e4m3⟩
  | .local _ .vmem, ⟨18, _⟩ => ⟨S1x64x32768, .fp8e4m3⟩
  | .local _ .vmem, ⟨19, _⟩ => ⟨S1x64x32768, .fp8e4m3⟩
  | .local _ .vmem, ⟨20, _⟩ => ⟨S1x128x512, .bf16⟩
  | .local _ .vmem, ⟨21, _⟩ => ⟨S1x128x512, .bf16⟩
  | .local _ .vmem, ⟨22, _⟩ => ⟨S1x512x128, .fp8e4m3⟩
  | .local _ .vmem, ⟨23, _⟩ => ⟨S1x512x128, .fp8e4m3⟩
  | .local _ .vmem, ⟨24, _⟩ => ⟨S1x1x8x128, .f32⟩
  | .local _ .vmem, ⟨25, _⟩ => ⟨S1x1x8x128, .f32⟩
  | .local _ .vmem, ⟨26, _⟩ => ⟨S64x1024, .f32⟩
  | .local _ .smem, ⟨0, _⟩ => ⟨S2x256, .f32⟩
  | .local _ .smem, ⟨1, _⟩ => ⟨S2x256, .f32⟩
  | _, _ => ⟨S2x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 256], ![false, false]⟩

@[reducible] def k1_t1_loop (i : grid1.Coords) : Scf.Loop 32 :=
  let c0_i32_134 : BitVec 32 := 0#32
  let arg1 : BitVec 32 := BitVec.ofNat 32 (i 1).val
  let v364 : BitVec 32 := Scalar.subi arg1 c0_i32_134
  let c1_i32_136 : BitVec 32 := 1#32
  let v366 : BitVec 32 := Scalar.divsi v364 c1_i32_136
  let v367 : BitVec 32 := Scalar.muli v366 c1_i32_136
  let v368 : BitVec 32 := Scalar.addi c0_i32_134 v367
  let c1_i32_137 : BitVec 32 := 1#32
  ⟨c0_i32_134, v368, c1_i32_137⟩
def k1_off1 (i : grid1.Coords) (k1_t1 : Fin (k1_t1_loop i).trips) : Fin 3 → Nat :=
  let c0_162 : Index := 0#32
  let c0_i32_134 : BitVec 32 := 0#32
  let c1_i32_137 : BitVec 32 := 1#32
  let arg11 : BitVec 32 := Scf.iv c0_i32_134 c1_i32_137 k1_t1
  let c128_i32_161 : BitVec 32 := 128#32
  let v446 : BitVec 32 := Scalar.muli arg11 c128_i32_161
  let v447 : Index := Scalar.indexCast v446
  let c0_163 : Index := 0#32
  ![0, v447.toNat, 0]
def k1_off2 (i : grid1.Coords) (k1_t1 : Fin (k1_t1_loop i).trips) : Fin 2 → Nat :=
  let arg0 : BitVec 32 := BitVec.ofNat 32 (i 0).val
  let v451 : Index := Scalar.indexCast arg0
  let c0_i32_134 : BitVec 32 := 0#32
  let c1_i32_137 : BitVec 32 := 1#32
  let arg11 : BitVec 32 := Scf.iv c0_i32_134 c1_i32_137 k1_t1
  let v452 : Index := Scalar.indexCast arg11
  ![v451.toNat, v452.toNat]
def k1_off3 (i : grid1.Coords) (k1_t1 : Fin (k1_t1_loop i).trips) : Fin 3 → Nat :=
  let c0_171 : Index := 0#32
  let c0_172 : Index := 0#32
  let c0_i32_134 : BitVec 32 := 0#32
  let c1_i32_137 : BitVec 32 := 1#32
  let arg11 : BitVec 32 := Scf.iv c0_i32_134 c1_i32_137 k1_t1
  let c128_i32_170 : BitVec 32 := 128#32
  let v477 : BitVec 32 := Scalar.muli arg11 c128_i32_170
  let v478 : Index := Scalar.indexCast v477
  ![0, 0, v478.toNat]
@[reducible] def k1_t2_loop (i : grid1.Coords) : Scf.Loop 32 :=
  let c0_i32_134 : BitVec 32 := 0#32
  let arg1 : BitVec 32 := BitVec.ofNat 32 (i 1).val
  let v364 : BitVec 32 := Scalar.subi arg1 c0_i32_134
  let c1_i32_136 : BitVec 32 := 1#32
  let v366 : BitVec 32 := Scalar.divsi v364 c1_i32_136
  let v367 : BitVec 32 := Scalar.muli v366 c1_i32_136
  let v368 : BitVec 32 := Scalar.addi c0_i32_134 v367
  let v365 : BitVec 32 := Scalar.addi c0_i32_134 v364
  let c1_i32_138 : BitVec 32 := 1#32
  ⟨v368, v365, c1_i32_138⟩
def k1_off4 (i : grid1.Coords) (k1_t2 : Fin (k1_t2_loop i).trips) : Fin 3 → Nat :=
  let c0_162 : Index := 0#32
  let c0_i32_134 : BitVec 32 := 0#32
  let arg1 : BitVec 32 := BitVec.ofNat 32 (i 1).val
  let v364 : BitVec 32 := Scalar.subi arg1 c0_i32_134
  let c1_i32_136 : BitVec 32 := 1#32
  let v366 : BitVec 32 := Scalar.divsi v364 c1_i32_136
  let v367 : BitVec 32 := Scalar.muli v366 c1_i32_136
  let v368 : BitVec 32 := Scalar.addi c0_i32_134 v367
  let c1_i32_138 : BitVec 32 := 1#32
  let arg11 : BitVec 32 := Scf.iv v368 c1_i32_138 k1_t2
  let c128_i32_161 : BitVec 32 := 128#32
  let v446 : BitVec 32 := Scalar.muli arg11 c128_i32_161
  let v447 : Index := Scalar.indexCast v446
  let c0_163 : Index := 0#32
  ![0, v447.toNat, 0]
def k1_off5 (i : grid1.Coords) (k1_t2 : Fin (k1_t2_loop i).trips) : Fin 2 → Nat :=
  let arg0 : BitVec 32 := BitVec.ofNat 32 (i 0).val
  let v451 : Index := Scalar.indexCast arg0
  let c0_i32_134 : BitVec 32 := 0#32
  let arg1 : BitVec 32 := BitVec.ofNat 32 (i 1).val
  let v364 : BitVec 32 := Scalar.subi arg1 c0_i32_134
  let c1_i32_136 : BitVec 32 := 1#32
  let v366 : BitVec 32 := Scalar.divsi v364 c1_i32_136
  let v367 : BitVec 32 := Scalar.muli v366 c1_i32_136
  let v368 : BitVec 32 := Scalar.addi c0_i32_134 v367
  let c1_i32_138 : BitVec 32 := 1#32
  let arg11 : BitVec 32 := Scf.iv v368 c1_i32_138 k1_t2
  let v452 : Index := Scalar.indexCast arg11
  ![v451.toNat, v452.toNat]
def k1_off6 (i : grid1.Coords) (k1_t2 : Fin (k1_t2_loop i).trips) : Fin 3 → Nat :=
  let c0_171 : Index := 0#32
  let c0_172 : Index := 0#32
  let c0_i32_134 : BitVec 32 := 0#32
  let arg1 : BitVec 32 := BitVec.ofNat 32 (i 1).val
  let v364 : BitVec 32 := Scalar.subi arg1 c0_i32_134
  let c1_i32_136 : BitVec 32 := 1#32
  let v366 : BitVec 32 := Scalar.divsi v364 c1_i32_136
  let v367 : BitVec 32 := Scalar.muli v366 c1_i32_136
  let v368 : BitVec 32 := Scalar.addi c0_i32_134 v367
  let c1_i32_138 : BitVec 32 := 1#32
  let arg11 : BitVec 32 := Scf.iv v368 c1_i32_138 k1_t2
  let c128_i32_170 : BitVec 32 := 128#32
  let v477 : BitVec 32 := Scalar.muli arg11 c128_i32_170
  let v478 : Index := Scalar.indexCast v477
  ![0, 0, v478.toNat]
def k1_off7 (i : grid1.Coords) : Fin 3 → Nat :=
  let c0_139 : Index := 0#32
  let arg1 : BitVec 32 := BitVec.ofNat 32 (i 1).val
  let c128_i32 : BitVec 32 := 128#32
  let v371 : BitVec 32 := Scalar.muli arg1 c128_i32
  let v372 : Index := Scalar.indexCast v371
  let c0_140 : Index := 0#32
  ![0, v372.toNat, 0]
def k1_off8 (i : grid1.Coords) : Fin 2 → Nat :=
  let arg0 : BitVec 32 := BitVec.ofNat 32 (i 0).val
  let v376 : Index := Scalar.indexCast arg0
  let arg1 : BitVec 32 := BitVec.ofNat 32 (i 1).val
  let v377 : Index := Scalar.indexCast arg1
  ![v376.toNat, v377.toNat]
def k1_off9 (i : grid1.Coords) : Fin 3 → Nat :=
  let c0_149 : Index := 0#32
  let c0_150 : Index := 0#32
  let arg1 : BitVec 32 := BitVec.ofNat 32 (i 1).val
  let c128_i32_148 : BitVec 32 := 128#32
  let v409 : BitVec 32 := Scalar.muli arg1 c128_i32_148
  let v410 : Index := Scalar.indexCast v409
  ![0, 0, v410.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .smem S2x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32768x64 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x64x32768 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x128 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "inv_ln2" => some (((Real.log 2)⁻¹ : ℝ) : EReal)
  | "sm_log2e" => some ((8⁻¹ * (Real.log 2)⁻¹ : ℝ) : EReal)
  | _ => none
-- ==== ReferenceIdeal.lean ====
variable {F : FTy → Type} [FloatOps F] [Named F]
def κ : String → Option EReal := fun
  | "inv_ln2" => some (((Real.log 2)⁻¹ : ℝ) : EReal)
  | _ => none
-- ==== Reference.lean ====
abbrev S2x32768x512 : Shape := ⟨3, ![2, 32768, 512]⟩
abbrev S2x32768x64 : Shape := ⟨3, ![2, 32768, 64]⟩
abbrev S2x32768x8x64 : Shape := ⟨4, ![2, 32768, 8, 64]⟩
abbrev S2x256x8 : Shape := ⟨3, ![2, 256, 8]⟩
abbrev S2x32768x1x64 : Shape := ⟨4, ![2, 32768, 1, 64]⟩
abbrev S2x256x1 : Shape := ⟨3, ![2, 256, 1]⟩
abbrev S2x256x128x8x64 : Shape := ⟨5, ![2, 256, 128, 8, 64]⟩
abbrev S2x256x1x8x1 : Shape := ⟨5, ![2, 256, 1, 8, 1]⟩
abbrev S2x256x128x1x64 : Shape := ⟨5, ![2, 256, 128, 1, 64]⟩
abbrev S2x256x1x1x1 : Shape := ⟨5, ![2, 256, 1, 1, 1]⟩
abbrev S2x256x1x8 : Shape := ⟨4, ![2, 256, 1, 8]⟩
abbrev S2x256x128x8 : Shape := ⟨4, ![2, 256, 128, 8]⟩
abbrev S2x32768x8x1 : Shape := ⟨4, ![2, 32768, 8, 1]⟩
abbrev S2x256x128 : Shape := ⟨3, ![2, 256, 128]⟩
abbrev S2x1x1x32768 : Shape := ⟨4, ![2, 1, 1, 32768]⟩
abbrev S2x32768x1 : Shape := ⟨3, ![2, 32768, 1]⟩
abbrev S2x32768x8x32768 : Shape := ⟨4, ![2, 32768, 8, 32768]⟩
abbrev S2x32768x8 : Shape := ⟨3, ![2, 32768, 8]⟩

abbrev nBuf : Space → Nat
  | .hbm => 10
  | .vmem => 10
  | .smem => 0
  | _ => 0

abbrev bufTy : (tb : Table) → Fin (tcTables nBuf tb) → BufTy
  | .hbm, ⟨0, _⟩ => ⟨S2x32768x512, .bf16⟩
  | .hbm, ⟨1, _⟩ => ⟨S2x32768x64, .bf16⟩
  | .hbm, ⟨2, _⟩ => ⟨S2x32768x64, .bf16⟩
  | .hbm, ⟨3, _⟩ => ⟨S2x32768x512, .bf16⟩
  | .hbm, ⟨4, _⟩ => ⟨S2x32768x8x64, .fp8e4m3⟩
  | .hbm, ⟨5, _⟩ => ⟨S2x256x8, .f32⟩
  | .hbm, ⟨6, _⟩ => ⟨S2x32768x1x64, .fp8e4m3⟩
  | .hbm, ⟨7, _⟩ => ⟨S2x256x1, .f32⟩
  | .hbm, ⟨8, _⟩ => ⟨S2x32768x1x64, .fp8e4m3⟩
  | .hbm, ⟨9, _⟩ => ⟨S2x256x1, .f32⟩
  | .local _ .vmem, ⟨0, _⟩ => ⟨S2x32768x512, .bf16⟩
  | .local _ .vmem, ⟨1, _⟩ => ⟨S2x32768x64, .bf16⟩
  | .local _ .vmem, ⟨2, _⟩ => ⟨S2x32768x64, .bf16⟩
  | .local _ .vmem, ⟨3, _⟩ => ⟨S2x32768x512, .bf16⟩
  | .local _ .vmem, ⟨4, _⟩ => ⟨S2x32768x8x64, .fp8e4m3⟩
  | .local _ .vmem, ⟨5, _⟩ => ⟨S2x256x8, .f32⟩
  | .local _ .vmem, ⟨6, _⟩ => ⟨S2x32768x1x64, .fp8e4m3⟩
  | .local _ .vmem, ⟨7, _⟩ => ⟨S2x256x1, .f32⟩
  | .local _ .vmem, ⟨8, _⟩ => ⟨S2x32768x1x64, .fp8e4m3⟩
  | .local _ .vmem, ⟨9, _⟩ => ⟨S2x256x1, .f32⟩
  | _, _ => ⟨S2x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x32768x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32768x8x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32768x1x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x32768x1x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Trip.lean ====
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

variable (𝒱 : Variants) (c : Dev nD) (bd : Option 𝒱.V) (i : grid1.Coords) (arg2 : Memref sig .tc .smem S2x256 .f32) (harg2 : arg2.IsWhole) (arg3 : Memref sig .tc .smem S2x256 .f32) (harg3 : arg3.IsWhole) (arg4 : Memref sig .tc .vmem S1x128x512 .bf16) (harg4 : arg4.IsWhole) (arg5 : Memref sig .tc .vmem S1x32768x64 .fp8e4m3) (harg5 : arg5.IsWhole) (arg6 : Memref sig .tc .vmem S1x64x32768 .fp8e4m3) (harg6 : arg6.IsWhole) (arg7 : Memref sig .tc .vmem S1x128x512 .bf16) (harg7 : arg7.IsWhole) (arg8 : Memref sig .tc .vmem S1x512x128 .fp8e4m3) (harg8 : arg8.IsWhole) (arg9 : Memref sig .tc .vmem S1x1x8x128 .f32) (harg9 : arg9.IsWhole) (arg10 : Memref sig .tc .vmem S64x1024 .f32) (harg10 : arg10.IsWhole) (arg0 : BitVec 32) (arg1 : BitVec 32) (v356 : FVec F S64x1024 .fp8e4m3) (v357 : FVec F S1x1024 .f32) (v362 : FVec F S1x1024 .f32) (v363 : FVec F S1x1024 .f32) (c0_i32_134 : BitVec 32) (cst_135 : F .f32) (v364 : BitVec 32) (c1_i32_136 : BitVec 32) (X_arg2 : BufTy.Contents (Elt F) arg2.view.ty) (X_arg3 : BufTy.Contents (Elt F) arg3.view.ty) (X_arg5 : BufTy.Contents (Elt F) arg5.view.ty) (X_arg6 : BufTy.Contents (Elt F) arg6.view.ty) (k : Fin (k1_t1_loop i).trips) (acc : FVec F S1x1024 .f32 × FVec F S1x1024 .f32 × F .f32) (f_arg10 : BufTy.Contents (Elt F) arg10.view.ty)

/-- The block of key codes read by trip `k`. -/
abbrev kblkAt : Vec F S1x128x64 .fp8e4m3 := View.readAt (Elt F) arg5.view (Rect.unit (s := S1x32768x64) (k1_off1 i k) S1x128x64.size (k1_off1_inb i k)).toLoadRect X_arg5
/-- The block of value codes read by trip `k`. -/
abbrev vblkAt : Vec F S1x64x128 .fp8e4m3 := View.readAt (Elt F) arg6.view (Rect.unit (s := S1x64x32768) (k1_off3 i k) S1x64x128.size (k1_off3_inb i k)).toLoadRect X_arg6
/-- The key scale read by trip `k`. -/
abbrev ksAt : F .f32 := View.readAt (Elt F) arg2.view (Rect.unit (s := S2x256) (k1_off2 i k) S1x1.size (k1_off2_inb i k)).toLoadRect X_arg2 (Shape.Idx.first (Nat.lt_of_lt_of_eq Nat.zero_lt_one numel1_S1x1.symm))
/-- The value scale read by trip `k`. -/
abbrev vsAt : F .f32 := View.readAt (Elt F) arg3.view (Rect.unit (s := S2x256) (k1_off2 i k) S1x1.size (k1_off2_inb i k)).toLoadRect X_arg3 (Shape.Idx.first (Nat.lt_of_lt_of_eq Nat.zero_lt_one numel1_S1x1.symm))
/-- The scratch as trip `k` reads it. -/
abbrev oAt : Vec F S64x1024 .f32 := View.readAt (Elt F) arg10.view (Rect.unit (s := S64x1024) ![0, 0] S64x1024.size inb_S64x1024_S64x1024_0_0).toLoadRect f_arg10

/-- What trip `k` yields. -/
theorem tripR_val :
    tripR_k1_t1 (F := F) 𝒱 c bd i arg2 harg2 arg3 harg3 arg4 harg4 arg5 harg5 arg6 harg6 arg7 harg7 arg8 harg8 arg9 harg9 arg10 harg10 arg0 arg1 v356 v357 v362 v363 c0_i32_134 cst_135 v364 c1_i32_136 X_arg2 X_arg3 X_arg5 X_arg6 k acc f_arg10
      = (k1_pay4 v356 v357 acc.1 (kblkAt i arg5 X_arg5 k) (ksAt i arg2 X_arg2 k),
         k1_pay7 v356 v357 acc.1 acc.2.1 (kblkAt i arg5 X_arg5 k) (ksAt i arg2 X_arg2 k),
         vsAt i arg3 X_arg3 k) := by
  unfold tripR_k1_t1 trip_k1_t1
  dsimp only
  rfl

/-- What trip `k` writes to the scratch. -/
theorem tripL_val :
    tripL_k1_t1 (F := F) 𝒱 c bd i arg2 harg2 arg3 harg3 arg4 harg4 arg5 harg5 arg6 harg6 arg7 harg7 arg8 harg8 arg9 harg9 arg10 harg10 arg0 arg1 v356 v357 v362 v363 c0_i32_134 cst_135 v364 c1_i32_136 X_arg2 X_arg3 X_arg5 X_arg6 k acc f_arg10
      = [⟨Rect.unit (s := S64x1024) ![0, 0] S64x1024.size inb_S64x1024_S64x1024_0_0,
          k1_pay86 (k1_pay8 v356 v357 acc.1 (kblkAt i arg5 X_arg5 k) (ksAt i arg2 X_arg2 k) (vblkAt i arg6 X_arg6 k))
            (oAt arg10 f_arg10)
            (k1_pay9 v356 v357 acc.1 acc.2.2 (kblkAt i arg5 X_arg5 k) (ksAt i arg2 X_arg2 k) (vsAt i arg3 X_arg3 k))⟩] := by
  unfold tripL_k1_t1 trip_k1_t1
  dsimp only
  rfl

end Cert.KernelIdeal.Val
-- ==== Proof.Body.lean ====
module

public import proofs.«01_k».proof.Proof.Trip
public import Idealize.ShloMosaic.Lib.Pointwise
public import Idealize.ShloMosaic.Lib.VecWindow

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The carried state of the online softmax: the running maximum `m`, the running sum `l`, the value scale `v` of the
    last block, and the accumulated output `o`. -/
structure OSt (F : FTy → Type) [FloatOps F] where
  /-- the running maximum of each column -/
  m : FVec F S1x1024 .f32
  /-- the running sum of each column -/
  l : FVec F S1x1024 .f32
  /-- the value scale of the block before -/
  v : F .f32
  /-- the accumulated output -/
  o : FVec F S64x1024 .f32

/-- The state before the first block. -/
def ini : OSt F := ⟨k1_pay84, k1_pay85, Scalar.ofBits .f32 0x3F800000#32, k1_pay83⟩

/-- One unmasked block. -/
def stepU (qt : FVec F S64x1024 .fp8e4m3) (qc : FVec F S1x1024 .f32) (kb : Vec F S1x128x64 .fp8e4m3) (vb : Vec F S1x64x128 .fp8e4m3)
    (ks vs : F .f32) (s : OSt F) : OSt F :=
  ⟨k1_pay4 qt qc s.m kb ks, k1_pay7 qt qc s.m s.l kb ks, vs, k1_pay86 (k1_pay8 qt qc s.m kb ks vb) s.o (k1_pay9 qt qc s.m s.v kb ks vs)⟩

/-- The state after `n` unmasked blocks. -/
def iterU (qt : FVec F S64x1024 .fp8e4m3) (qc : FVec F S1x1024 .f32) (kb : ℕ → Vec F S1x128x64 .fp8e4m3) (vb : ℕ → Vec F S1x64x128 .fp8e4m3)
    (ks vs : ℕ → F .f32) : ℕ → OSt F
  | 0 => ini
  | n + 1 => stepU qt qc (kb n) (vb n) (ks n) (vs n) (iterU qt qc kb vb ks vs n)

/-- Key block `n`. -/
def kbN (x3 : Vec F S1x32768x64 .fp8e4m3) (n : ℕ) : Vec F S1x128x64 .fp8e4m3 :=
  fun y => x3 (ix3 (0 : Fin 1) (⟨(128 * n + (y 1).val) % 32768, Nat.mod_lt _ (by decide)⟩ : Fin 32768) (y 2))
/-- Value block `n` (transposed). -/
def vbN (x4 : Vec F S1x64x32768 .fp8e4m3) (n : ℕ) : Vec F S1x64x128 .fp8e4m3 :=
  fun y => x4 (ix3 (0 : Fin 1) (y 1) (⟨(128 * n + (y 2).val) % 32768, Nat.mod_lt _ (by decide)⟩ : Fin 32768))
/-- The scale of block `n` of batch `b`. -/
def scN (x0 : Vec F S2x256 .f32) (b : Fin 2) (n : ℕ) : F .f32 := x0 (ix2 b (⟨n % 256, Nat.mod_lt _ (by decide)⟩ : Fin 256))

theorem one_eq_cst : kernelRun1_A.sl.cst_135 = (Scalar.ofBits .f32 0x3F800000#32 : F .f32) := rfl

/-- The main loop's trip count is the query block's number. -/
theorem trips1 (i : grid1.Coords) : (k1_t1_loop i).trips = (i 1).val := by
  have h_c0_i32_134 : Affine.IsInt 0#32 (0) := Affine.ofNat _ (by omega)
  have r_i1 : (i 1).val < 256 := (i 1).isLt
  have h_arg1 : Affine.IsInt (BitVec.ofNat 32 (i 1).val) (((i 1).val : Int)) := Affine.ofNat _ (by omega)
  have h_v364 : Affine.IsInt _ (((i 1).val : Int)) := Affine.subi h_arg1 h_c0_i32_134 (by omega)
  have h_c1_i32_136 : Affine.IsInt 1#32 (1) := Affine.ofNat _ (by omega)
  have h_v366 : Affine.IsInt _ (((i 1).val : Int)) := Affine.divsi h_v364 h_c1_i32_136 (by omega)
  have h_v367 : Affine.IsInt _ (((i 1).val : Int)) := Affine.muli h_v366 h_c1_i32_136 (by omega)
  have h_v368 : Affine.IsInt _ (((i 1).val : Int)) := Affine.addi h_c0_i32_134 h_v367 (by omega)
  have h_c1_i32_137 : Affine.IsInt 1#32 (1) := Affine.ofNat _ (by omega)
  exact Affine.trips_eq h_c0_i32_134 h_v368 h_c1_i32_137 _ (by omega)

/-- The remainder loop has no trip. -/
theorem trips2 (i : grid1.Coords) : (k1_t2_loop i).trips = 0 := Nat.le_zero.1 (k1_t2_abs i).2.1

section Reads
variable (i : grid1.Coords) (arg2 : Memref sig .tc .smem S2x256 .f32) (harg2 : arg2.IsWhole) (arg5 : Memref sig .tc .vmem S1x32768x64 .fp8e4m3) (harg5 : arg5.IsWhole) (arg6 : Memref sig .tc .vmem S1x64x32768 .fp8e4m3) (harg6 : arg6.IsWhole)
variable (x0 : Vec F S2x256 .f32) (x3 : Vec F S1x32768x64 .fp8e4m3) (x4 : Vec F S1x64x32768 .fp8e4m3)

theorem kread {off : Fin 3 → ℕ} (n : ℕ) (inb : ∀ a, off a + S1x128x64.size a ≤ S1x32768x64.size a) (h : off = ![0, 128 * n, 0]) :
    View.readAt (Elt F) arg5.view (Rect.unit (s := S1x32768x64) off S1x128x64.size inb).toLoadRect (harg5.unread x3) = kbN x3 n := by
  subst h
  rw [View.readAt_eq_ld, harg5.read_unread]
  funext y
  refine congrArg x3 (funext fun a => Fin.ext ?_)
  have hy1 : (y 1).val < 128 := (y 1).isLt
  have hy0 : (y 0).val < 1 := (y 0).isLt
  have hi := inb 1
  fin_cases a
  · show 0 + 1 * (y 0).val = 0
    omega
  · show 128 * n + 1 * (y 1).val = (128 * n + (y 1).val) % 32768
    have : 128 * n + 128 ≤ 32768 := hi
    rw [Nat.mod_eq_of_lt (by omega)]; omega
  · show 0 + 1 * (y 2).val = (y 2).val
    omega

theorem vread {off : Fin 3 → ℕ} (n : ℕ) (inb : ∀ a, off a + S1x64x128.size a ≤ S1x64x32768.size a) (h : off = ![0, 0, 128 * n]) :
    View.readAt (Elt F) arg6.view (Rect.unit (s := S1x64x32768) off S1x64x128.size inb).toLoadRect (harg6.unread x4) = vbN x4 n := by
  subst h
  rw [View.readAt_eq_ld, harg6.read_unread]
  funext y
  refine congrArg x4 (funext fun a => Fin.ext ?_)
  have hy1 : (y 2).val < 128 := (y 2).isLt
  have hy0 : (y 0).val < 1 := (y 0).isLt
  have hi := inb 2
  fin_cases a
  · show 0 + 1 * (y 0).val = 0
    omega
  · show 0 + 1 * (y 1).val = (y 1).val
    omega
  · show 128 * n + 1 * (y 2).val = (128 * n + (y 2).val) % 32768
    have : 128 * n + 128 ≤ 32768 := hi
    rw [Nat.mod_eq_of_lt (by omega)]; omega

theorem sread {off : Fin 2 → ℕ} (b : Fin 2) (n : ℕ) (inb : ∀ a, off a + S1x1.size a ≤ S2x256.size a) (h : off = ![b.val, n]) (y : S1x1.Idx) :
    View.readAt (Elt F) arg2.view (Rect.unit (s := S2x256) off S1x1.size inb).toLoadRect (harg2.unread x0) y = scN x0 b n := by
  subst h
  rw [View.readAt_eq_ld, harg2.read_unread]
  refine congrArg x0 (funext fun a => Fin.ext ?_)
  have hy1 : (y 1).val < 1 := (y 1).isLt
  have hy0 : (y 0).val < 1 := (y 0).isLt
  have hi := inb 1
  fin_cases a
  · show b.val + 1 * (y 0).val = b.val
    omega
  · show n + 1 * (y 1).val = n % 256
    have : n + 1 ≤ 256 := hi
    rw [Nat.mod_eq_of_lt (by omega)]; omega

end Reads

section State
variable (𝒱 : Variants) (c : Dev nD) (bd : Option 𝒱.V) (i : grid1.Coords) (arg2 : Memref sig .tc .smem S2x256 .f32) (harg2 : arg2.IsWhole) (arg3 : Memref sig .tc .smem S2x256 .f32) (harg3 : arg3.IsWhole) (arg4 : Memref sig .tc .vmem S1x128x512 .bf16) (harg4 : arg4.IsWhole) (arg5 : Memref sig .tc .vmem S1x32768x64 .fp8e4m3) (harg5 : arg5.IsWhole) (arg6 : Memref sig .tc .vmem S1x64x32768 .fp8e4m3) (harg6 : arg6.IsWhole) (arg7 : Memref sig .tc .vmem S1x128x512 .bf16) (harg7 : arg7.IsWhole) (arg8 : Memref sig .tc .vmem S1x512x128 .fp8e4m3) (harg8 : arg8.IsWhole) (arg9 : Memref sig .tc .vmem S1x1x8x128 .f32) (harg9 : arg9.IsWhole) (arg10 : Memref sig .tc .vmem S64x1024 .f32) (harg10 : arg10.IsWhole) (arg0 : BitVec 32) (arg1 : BitVec 32) (v356 : FVec F S64x1024 .fp8e4m3) (v357 : FVec F S1x1024 .f32) (v362 : FVec F S1x1024 .f32) (v363 : FVec F S1x1024 .f32) (c0_i32_134 : BitVec 32) (cst_135 : F .f32) (v364 : BitVec 32) (c1_i32_136 : BitVec 32)
variable (x0 : Vec F S2x256 .f32) (x1 : Vec F S2x256 .f32) (x2 : Vec F S1x128x512 .bf16) (x3 : Vec F S1x32768x64 .fp8e4m3) (x4 : Vec F S1x64x32768 .fp8e4m3)
variable (G : BufTy.Contents (Elt F) arg10.view.ty)

/-- Before trip `n` of the main loop, the carried values and the scratch are the state after `n` blocks. -/
theorem st_val (hG : oAt arg10 G = k1_pay83) (n : ℕ) (hn : n ≤ (k1_t1_loop i).trips) :
    (st_k1_t1 (F := F) 𝒱 c bd i arg2 harg2 arg3 harg3 arg4 harg4 arg5 harg5 arg6 harg6 arg7 harg7 arg8 harg8 arg9 harg9 arg10 harg10 arg0 arg1 v356 v357 v362 v363 c0_i32_134 cst_135 v364 c1_i32_136 (harg2.unread x0) (harg3.unread x1) (harg5.unread x3) (harg6.unread x4) G (k1_pay84, k1_pay85, Scalar.ofBits .f32 0x3F800000#32) n).1
      = ((iterU v356 v357 (kbN x3) (vbN x4) (scN x0 (i 0)) (scN x1 (i 0)) n).m, (iterU v356 v357 (kbN x3) (vbN x4) (scN x0 (i 0)) (scN x1 (i 0)) n).l, (iterU v356 v357 (kbN x3) (vbN x4) (scN x0 (i 0)) (scN x1 (i 0)) n).v)
    ∧ oAt arg10 (arg10.view.writes (Elt F) G (st_k1_t1 (F := F) 𝒱 c bd i arg2 harg2 arg3 harg3 arg4 harg4 arg5 harg5 arg6 harg6 arg7 harg7 arg8 harg8 arg9 harg9 arg10 harg10 arg0 arg1 v356 v357 v362 v363 c0_i32_134 cst_135 v364 c1_i32_136 (harg2.unread x0) (harg3.unread x1) (harg5.unread x3) (harg6.unread x4) G (k1_pay84, k1_pay85, Scalar.ofBits .f32 0x3F800000#32) n).2)
      = (iterU v356 v357 (kbN x3) (vbN x4) (scN x0 (i 0)) (scN x1 (i 0)) n).o := by
  induction n with
  | zero => exact ⟨rfl, hG⟩
  | succ n ih =>
    obtain ⟨h1, h2⟩ := ih (by omega)
    have hs := st_k1_t1_succ (F := F) 𝒱 c bd i arg2 harg2 arg3 harg3 arg4 harg4 arg5 harg5 arg6 harg6 arg7 harg7 arg8 harg8 arg9 harg9 arg10 harg10 arg0 arg1 v356 v357 v362 v363 c0_i32_134 cst_135 v364 c1_i32_136 (harg2.unread x0) (harg3.unread x1) (harg5.unread x3) (harg6.unread x4) G (k1_pay84, k1_pay85, Scalar.ofBits .f32 0x3F800000#32) ⟨n, by omega⟩
    dsimp only at hs
    rw [hs]
    rw [tripR_val, tripL_val, h1]
    dsimp only
    rw [h2]
    have e1 := kread arg5 harg5 x3 n (k1_off1_inb i ⟨n, by omega⟩) (k1_off1_eq i ⟨n, by omega⟩)
    have e2 := vread arg6 harg6 x4 n (k1_off3_inb i ⟨n, by omega⟩) (k1_off3_eq i ⟨n, by omega⟩)
    have e3 := sread arg2 harg2 x0 (i 0) n (k1_off2_inb i ⟨n, by omega⟩) (k1_off2_eq i ⟨n, by omega⟩) (Shape.Idx.first (Nat.lt_of_lt_of_eq Nat.zero_lt_one numel1_S1x1.symm))
    have e4 := sread arg3 harg3 x1 (i 0) n (k1_off2_inb i ⟨n, by omega⟩) (k1_off2_eq i ⟨n, by omega⟩) (Shape.Idx.first (Nat.lt_of_lt_of_eq Nat.zero_lt_one numel1_S1x1.symm))
    unfold kblkAt vblkAt ksAt vsAt
    rw [e1, e2, e3, e4]
    refine ⟨rfl, ?_⟩
    exact View.readAt_writes_full arg10.view G _ _ _ _

end State

end Cert.KernelIdeal.Val
-- ==== Proof.Tile.lean ====
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The largest magnitude of a tile of 64 features by 128 tokens, by the kernel's two steps. -/
def tAmax (t : FVec F S64x128 .f32) : FVec F S1x1 .f32 :=
  shapeCast S1x1 (multiReduction .maximumf [1] S1 (shapeCast S1x128 (multiReduction .maximumf [0] S128 (absf t) 0xFF800000#32 reduces_S64x128_S128 (.inl rfl) rfl) shapeCasts_S128_S1x128) 0xFF800000#32 reduces_S1x128_S1 (.inl rfl) rfl) shapeCasts_S1_S1x1

/-- The exponent of the tile's scale. -/
def tExp (t : FVec F S64x128 .f32) : IVec S1x1 32 :=
  select (cmpf .ogt (tAmax t) (broadcast S1x1 (Scalar.ofBits .f32 0x00000000#32 : F .f32)))
    (addi (fptosi 32 (floor (mulf (log (mulf (tAmax t) (broadcast S1x1 (Scalar.ofBits .f32 0x3B124925#32)))) (broadcast S1x1 (Named.named κ "inv_ln2" 0x3FB8AA3B#32))))) (broadcast S1x1 1#32))
    (broadcast S1x1 0#32)

/-- The tile's scale. -/
def tScl (t : FVec F S64x128 .f32) : FVec F S1x1 .f32 := exp2 (sitofp .f32 (tExp t))

/-- The scaled and clipped tile. -/
def tClip (t : FVec F S64x128 .f32) : FVec F S64x128 .f32 :=
  minimumf (broadcast S64x128 (Scalar.ofBits .f32 0x43E00000#32)) (maximumf (broadcast S64x128 (Scalar.ofBits .f32 0xC3E00000#32))
    (mulf t (broadcastTo S64x128 (exp2 (sitofp .f32 (subi (broadcast S1x1 0#32) (tExp t)))) broadcasts_S1x1_S64x128)))

/-- The tile's codes. -/
def tCod (t : FVec F S64x128 .f32) : FVec F S64x128 .fp8e4m3 := truncf .fp8e4m3 (tClip t) bitsLt_fp8e4m3_f32

/-- The query tile of head `h` (features by tokens). -/
def xT (x2 : Vec F S1x128x512 .bf16) (h : Fin 8) : FVec F S64x128 .f32 :=
  extractStridedSlice S64x128 ![64 * h.val, 0] (k1_pay17 x2) ⟨rfl, fun a => by
    have := h.isLt
    fin_cases a
    · show 64 * h.val + 64 ≤ 512
      omega
    · show 0 + 128 ≤ 128
      omega⟩

/-- The column scales of one head. -/
def tCol (t : FVec F S64x128 .f32) : FVec F S1x128 .f32 :=
  broadcastTo S1x128 (shapeCast S1x1 (mulf (tScl t) (broadcast S1x1 (Named.named κ "sm_log2e" 0x3E38AA3B#32))) shapeCasts_S1x1_S1x1) broadcasts_S1x1_S1x128

/-- The query codes of the eight heads side by side. -/
def qtV (x2 : Vec F S1x128x512 .bf16) : FVec F S64x1024 .fp8e4m3 :=
  concatenate S64x1024 1 [⟨S64x128, tCod (xT x2 0)⟩, ⟨S64x128, tCod (xT x2 1)⟩, ⟨S64x128, tCod (xT x2 2)⟩, ⟨S64x128, tCod (xT x2 3)⟩, ⟨S64x128, tCod (xT x2 4)⟩, ⟨S64x128, tCod (xT x2 5)⟩, ⟨S64x128, tCod (xT x2 6)⟩, ⟨S64x128, tCod (xT x2 7)⟩] concatenates_S64x128_S64x128_S64x128_S64x128_S64x128_S64x128_S64x128_S64x128_S64x1024_d1

/-- The column scales of the eight heads side by side. -/
def qcV (x2 : Vec F S1x128x512 .bf16) : FVec F S1x1024 .f32 :=
  concatenate S1x1024 1 [⟨S1x128, tCol (xT x2 0)⟩, ⟨S1x128, tCol (xT x2 1)⟩, ⟨S1x128, tCol (xT x2 2)⟩, ⟨S1x128, tCol (xT x2 3)⟩, ⟨S1x128, tCol (xT x2 4)⟩, ⟨S1x128, tCol (xT x2 5)⟩, ⟨S1x128, tCol (xT x2 6)⟩, ⟨S1x128, tCol (xT x2 7)⟩] concatenates_S1x128_S1x128_S1x128_S1x128_S1x128_S1x128_S1x128_S1x128_S1x1024_d1

/-- The block of transposed query codes. -/
def q6 (x2 : Vec F S1x128x512 .bf16) (y : S1x512x128.Idx) : F .fp8e4m3 :=
  tCod (xT x2 ⟨(y 1).val / 64, by have : (y 1).val < 512 := (y 1).isLt; omega⟩) (ix2 (⟨(y 1).val % 64, Nat.mod_lt _ (by decide)⟩ : Fin 64) (y 2 : Fin 128))

/-- The block of query scales. -/
def q7 (x2 : Vec F S1x128x512 .bf16) (y : S1x1x8x128.Idx) : F .f32 := tScl (xT x2 (y 2 : Fin 8)) (ix2 (0 : Fin 1) (0 : Fin 1))

theorem q6_piece (x2 : Vec F S1x128x512 .bf16) (h : Fin 8) (inb : ∀ a, (![0, 64 * h.val, 0] : Fin 3 → ℕ) a + S1x64x128.size a ≤ S1x512x128.size a) (x : S1x64x128.Idx) :
    shapeCast S1x64x128 (tCod (xT x2 h)) shapeCasts_S64x128_S1x64x128 x = q6 x2 ((Rect.unit (s := S1x512x128) ![0, 64 * h.val, 0] S1x64x128.size inb).emb x) := by
  have h1 : (x 1).val < 64 := (x 1).isLt
  have e1 : (⟨(((Rect.unit (s := S1x512x128) ![0, 64 * h.val, 0] S1x64x128.size inb).emb x) 1).val / 64, by have : (((Rect.unit (s := S1x512x128) ![0, 64 * h.val, 0] S1x64x128.size inb).emb x) 1).val < 512 := (((Rect.unit (s := S1x512x128) ![0, 64 * h.val, 0] S1x64x128.size inb).emb x) 1).isLt; omega⟩ : Fin 8) = h := by
    apply Fin.ext
    show (64 * h.val + 1 * (x 1).val) / 64 = h.val
    omega
  unfold q6
  rw [e1]
  refine Idealize.ShloMosaic.shapeCast_apply _ _ _ _ ?_
  rw [Shape.rowMajor_val_two, Shape.rowMajor_val_three]
  have h0 : (x 0).val < 1 := (x 0).isLt
  show ((64 * h.val + 1 * (x 1).val) % 64) * 128 + (0 + 1 * (x 2).val) = ((x 0).val * 64 + (x 1).val) * 128 + (x 2).val
  omega

theorem q7_piece (x2 : Vec F S1x128x512 .bf16) (h : Fin 8) (inb : ∀ a, (![0, 0, h.val, 0] : Fin 4 → ℕ) a + S1x1x1x128.size a ≤ S1x1x8x128.size a) (x : S1x1x1x128.Idx) :
    shapeCast S1x1x1x128 (broadcastTo S1x128 (shapeCast S1x1 (tScl (xT x2 h)) shapeCasts_S1x1_S1x1) broadcasts_S1x1_S1x128) shapeCasts_S1x128_S1x1x1x128 x = q7 x2 ((Rect.unit (s := S1x1x8x128) ![0, 0, h.val, 0] S1x1x1x128.size inb).emb x) := by
  have e1 : (((Rect.unit (s := S1x1x8x128) ![0, 0, h.val, 0] S1x1x1x128.size inb).emb x) 2 : Fin 8) = h := by
    apply Fin.ext
    have h2 : (x 2).val < 1 := (x 2).isLt
    show h.val + 1 * (x 2).val = h.val
    omega
  have h0 : (x 0).val < 1 := (x 0).isLt
  have h1 : (x 1).val < 1 := (x 1).isLt
  have h2 : (x 2).val < 1 := (x 2).isLt
  unfold q7
  rw [e1]
  refine (Idealize.ShloMosaic.shapeCast_apply _ _ _ (ix2 (0 : Fin 1) (x 3 : Fin 128)) ?_).trans ?_
  · rw [Shape.rowMajor_val_two, Shape.rowMajor_val_four]
    show 0 * 128 + (x 3).val = (((x 0).val * 1 + (x 1).val) * 1 + (x 2).val) * 128 + (x 3).val
    omega
  refine (Idealize.ShloMosaic.broadcastTo_apply _ _ _ (ix2 (0 : Fin 1) (0 : Fin 1)) ?_).trans ?_
  · intro a
    fin_cases a <;> rfl
  exact Idealize.ShloMosaic.shapeCast_apply _ _ _ _ rfl

end Cert.KernelIdeal.Val
-- ==== Proof.Spec.lean ====
module

public import Idealize.ShloMosaic.Lib.Pointwise
public import Idealize.ShloMosaic.PureOps.Ideal.Laws

@[expose] public section

@[expose] public section

set_option maxRecDepth 16384

noncomputable section

namespace Cert.Spec

open Idealize.ShloMosaic

/-! ## The constants of the programs, read as real numbers -/

theorem c_ninf : Ideal.ofBits .f32 4286578688#32 = (⊥ : EReal) := by simp [Ideal.ofBits, Ideal.ieee]
theorem c_one : Ideal.ofBits .f32 1065353216#32 = ((1 : ℝ) : EReal) := by
  simp [Ideal.ofBits, Ideal.ieee, -EReal.coe_mul]; norm_num
theorem c_8 : Ideal.ofBits .f32 1090519040#32 = ((8 : ℝ) : EReal) := by
  simp [Ideal.ofBits, Ideal.ieee, -EReal.coe_mul]; norm_num
theorem c_256 : Ideal.ofBits .f32 1132462080#32 = ((256 : ℝ) : EReal) := by
  simp [Ideal.ofBits, Ideal.ieee, -EReal.coe_mul]; norm_num
theorem c_448 : Ideal.ofBits .f32 1138753536#32 = ((448 : ℝ) : EReal) := by
  simp [Ideal.ofBits, Ideal.ieee, -EReal.coe_mul]; norm_num
theorem c_n448 : Ideal.ofBits .f32 3286237184#32 = ((-448 : ℝ) : EReal) := by
  simp [Ideal.ofBits, Ideal.ieee, -EReal.coe_mul]; norm_num
theorem c_eighth : Ideal.ofBits .f32 1040187392#32 = ((1 / 8 : ℝ) : EReal) := by
  simp [Ideal.ofBits, Ideal.ieee, -EReal.coe_mul]; norm_num
theorem c_256th : Ideal.ofBits .f32 998244352#32 = ((1 / 256 : ℝ) : EReal) := by
  simp [Ideal.ofBits, Ideal.ieee, -EReal.coe_mul]; norm_num

/-! ## The quantiser -/

/-- The largest magnitude of a tile of 64 features by 128 tokens. -/
def amax (f : Fin 64 → Fin 128 → EReal) : EReal :=
  Finset.univ.sup fun r : Fin 128 => Finset.univ.sup fun d : Fin 64 => max (f d r) (-f d r)

/-- The exponent of the scale of a tile of largest magnitude `a`. -/
def expW (a : EReal) : BitVec 32 :=
  if 0 < a then IntOp.addi (FloatOps.fptosi (F := Ideal) (φ := .f32) 32 (Ideal.liftRound Int.floor (Ideal.log (a * Ideal.ofBits .f32 991054117#32) * (((Real.log 2)⁻¹ : ℝ) : EReal)))) 1#32
  else 0#32

/-- The scale, a power of two. -/
def scl (a : EReal) : EReal := Ideal.exp2 (FloatOps.sitofp (F := Ideal) .f32 (expW a))

/-- The scale's reciprocal. -/
def inv (a : EReal) : EReal := Ideal.exp2 (FloatOps.sitofp (F := Ideal) .f32 (IntOp.subi (0#32) (expW a)))

/-- Clipping to the range of the code format. -/
def clip (x : EReal) : EReal := min (Ideal.ofBits .f32 1138753536#32) (max (Ideal.ofBits .f32 3286237184#32) x)

/-- The real number that a scale is. -/
def rscl (a : EReal) : ℝ := Real.rpow 2 ((expW a).toInt : ℝ)

theorem rscl_pos (a : EReal) : 0 < rscl a := Real.rpow_pos_of_pos (by norm_num) _

theorem scl_eq (a : EReal) : scl a = ((rscl a : ℝ) : EReal) := rfl

theorem clip_eq (x : EReal) : clip x = min ((448 : ℝ) : EReal) (max ((-448 : ℝ) : EReal) x) := by
  unfold clip
  rw [c_448, c_n448]

/-- The real number that a code is. -/
def rclip (x : EReal) : ℝ := (clip x).toReal

theorem clip_coe (x : EReal) : clip x = ((rclip x : ℝ) : EReal) := by
  unfold rclip
  rw [EReal.coe_toReal]
  · rw [clip_eq]
    exact ne_of_lt (lt_of_le_of_lt (min_le_left _ _) (EReal.coe_lt_top _))
  · rw [clip_eq]
    refine ne_of_gt (lt_of_lt_of_le (EReal.bot_lt_coe (-448)) (le_min ?_ (le_max_left _ _)))
    exact_mod_cast (by norm_num : (-448 : ℝ) ≤ 448)

/-- A number from 0 to 448 is not clipped. -/
theorem clip_id {x : ℝ} (h0 : 0 ≤ x) (h1 : x ≤ 448) : clip (x : EReal) = (x : EReal) := by
  rw [clip_eq, max_eq_right (by exact_mod_cast (by linarith : (-448 : ℝ) ≤ x)), min_eq_right (by exact_mod_cast h1)]

/-! ## The arrays of codes and scales -/

/-- Token `r` of block `n`. -/
def tok (n : Fin 256) (r : Fin 128) : Fin 32768 := ⟨128 * n.val + r.val, by omega⟩
/-- The block of a token. -/
def blk (t : Fin 32768) : Fin 256 := ⟨t.val / 128, by omega⟩
/-- Feature `d` of head `h`. -/
def feat (h : Fin 8) (d : Fin 64) : Fin 512 := ⟨64 * h.val + d.val, by omega⟩

variable (a0 : (⟨3, ![2, 32768, 512]⟩ : Shape).Idx → EReal) (a1 a2 : (⟨3, ![2, 32768, 64]⟩ : Shape).Idx → EReal)

/-- The query tile of block `n` and head `h`. -/
def qTile (b : Fin 2) (n : Fin 256) (h : Fin 8) : Fin 64 → Fin 128 → EReal := fun d r => a0 (ix3 b (tok n r) (feat h d))
/-- The key (or value) tile of block `n`. -/
def kTile (b : Fin 2) (n : Fin 256) : Fin 64 → Fin 128 → EReal := fun d r => a1 (ix3 b (tok n r) d)

/-- The query scale. -/
def qScl (b : Fin 2) (n : Fin 256) (h : Fin 8) : EReal := scl (amax (qTile a0 b n h))
/-- The key (or value) scale. -/
def kScl (b : Fin 2) (n : Fin 256) : EReal := scl (amax (kTile a1 b n))
/-- The query code. -/
def qCod (b : Fin 2) (t : Fin 32768) (h : Fin 8) (d : Fin 64) : EReal := clip (a0 (ix3 b t (feat h d)) * inv (amax (qTile a0 b (blk t) h)))
/-- The key (or value) code. -/
def kCod (b : Fin 2) (t : Fin 32768) (d : Fin 64) : EReal := clip (a1 (ix3 b t d) * inv (amax (kTile a1 b (blk t))))

/-- The real query scale. -/
def rqS (b : Fin 2) (n : Fin 256) (h : Fin 8) : ℝ := rscl (amax (qTile a0 b n h))
/-- The real key (or value) scale. -/
def rkS (b : Fin 2) (n : Fin 256) : ℝ := rscl (amax (kTile a1 b n))
/-- The real query code. -/
def rqC (b : Fin 2) (t : Fin 32768) (h : Fin 8) (d : Fin 64) : ℝ := rclip (a0 (ix3 b t (feat h d)) * inv (amax (qTile a0 b (blk t) h)))
/-- The real key (or value) code. -/
def rkC (b : Fin 2) (t : Fin 32768) (d : Fin 64) : ℝ := rclip (a1 (ix3 b t d) * inv (amax (kTile a1 b (blk t))))

theorem qScl_coe (b : Fin 2) (n : Fin 256) (h : Fin 8) : qScl a0 b n h = ((rqS a0 b n h : ℝ) : EReal) := rfl
theorem kScl_coe (b : Fin 2) (n : Fin 256) : kScl a1 b n = ((rkS a1 b n : ℝ) : EReal) := rfl
theorem qCod_coe (b : Fin 2) (t : Fin 32768) (h : Fin 8) (d : Fin 64) : qCod a0 b t h d = ((rqC a0 b t h d : ℝ) : EReal) := clip_coe _
theorem kCod_coe (b : Fin 2) (t : Fin 32768) (d : Fin 64) : kCod a1 b t d = ((rkC a1 b t d : ℝ) : EReal) := clip_coe _
theorem rkS_pos (b : Fin 2) (n : Fin 256) : 0 < rkS a1 b n := rscl_pos _
theorem rqS_pos (b : Fin 2) (n : Fin 256) (h : Fin 8) : 0 < rqS a0 b n h := rscl_pos _

/-- The score of query `t` (head `h`) against key `k`. -/
def score (b : Fin 2) (t : Fin 32768) (h : Fin 8) (k : Fin 32768) : ℝ :=
  (∑ d : Fin 64, rqC a0 b t h d * rkC a1 b k d) * (rqS a0 b (blk t) h * rkS a1 b (blk k) * (1 / 8))

/-- The attention output: the mean of the dequantised values of the keys up to `t`, weighted by the exponentials of the
    scores. -/
def yR (b : Fin 2) (t : Fin 32768) (h : Fin 8) (d : Fin 64) : ℝ :=
  (∑ k ∈ Finset.univ.filter (fun k : Fin 32768 => k.val ≤ t.val), Real.exp (score a0 a1 b t h k) * (rkC a2 b k d * rkS a2 b (blk k)))
    / ∑ k ∈ Finset.univ.filter (fun k : Fin 32768 => k.val ≤ t.val), Real.exp (score a0 a1 b t h k)

end Cert.Spec
-- ==== Proof.Soft.lean ====
module

public import proofs.«01_k».proof.Proof.Spec

@[expose] public section

@[expose] public section

set_option maxRecDepth 16384

noncomputable section

namespace Cert.Spec

open Idealize.ShloMosaic

/-! ## Softmax over masked scores, with the maximum subtracted -/

/-- A real maximum over scores of which one at least is not masked. -/
theorem max_real {n : ℕ} (m : EReal) (hm : m ≠ ⊤) (s : Fin n → EReal) (P : Fin n → Prop) [DecidablePred P] (sr : Fin n → ℝ)
    (hs : ∀ r, s r = if P r then ((sr r : ℝ) : EReal) else ⊥) (hP : ∃ r, P r) :
    ∃ M : ℝ, max m (Finset.univ.fold max ⊥ s) = ((M : ℝ) : EReal) ∧ m ≤ (M : EReal) ∧ ∀ r, P r → sr r ≤ M := by
  have hle : ∀ r, s r ≤ Finset.univ.fold max ⊥ s := fun r => by
    rw [Finset.le_fold_max]
    exact Or.inr ⟨r, Finset.mem_univ _, le_rfl⟩
  have hlt : Finset.univ.fold max ⊥ s < ⊤ := by
    rw [Finset.fold_max_lt]
    refine ⟨bot_lt_top, fun r _ => ?_⟩
    rw [hs]
    split
    · exact EReal.coe_lt_top _
    · exact bot_lt_top
  obtain ⟨r0, h0⟩ := hP
  have h1 : max m (Finset.univ.fold max ⊥ s) ≠ ⊤ := ne_of_lt (max_lt (lt_top_iff_ne_top.2 hm) hlt)
  have h2 : max m (Finset.univ.fold max ⊥ s) ≠ ⊥ := by
    refine ne_of_gt (lt_of_lt_of_le ?_ ((hle r0).trans (le_max_right _ _)))
    rw [hs, if_pos h0]
    exact EReal.bot_lt_coe _
  refine ⟨(max m (Finset.univ.fold max ⊥ s)).toReal, (EReal.coe_toReal h1 h2).symm, ?_, fun r hr => ?_⟩
  · rw [EReal.coe_toReal h1 h2]
    exact le_max_left _ _
  · have := (hle r).trans (le_max_right m _)
    rw [hs, if_pos hr, ← EReal.coe_toReal h1 h2] at this
    exact_mod_cast this

theorem coe_sum {n : ℕ} (f : Fin n → ℝ) : (∑ r, ((f r : ℝ) : EReal)) = ((∑ r, f r : ℝ) : EReal) := by
  induction n with
  | zero => simp
  | succ n ih => rw [Fin.sum_univ_castSucc, Fin.sum_univ_castSucc, ih, ← EReal.coe_add]

/-! ## One block of the online softmax -/

/-- The invariant of the online softmax: with `A` the sum of the powers of two of the scores seen and `B d` the sum of
    these weighted by the dequantised values, the carried maximum `m`, sum `l`, value scale `v` and output `o`. -/
def Inv (m l v : EReal) (o : Fin 64 → EReal) (A : ℝ) (B : Fin 64 → ℝ) : Prop :=
  ∃ vr : ℝ, 0 < vr ∧ v = ((vr : ℝ) : EReal) ∧
    ((m = ⊥ ∧ l = 0 ∧ (∀ d, o d = 0) ∧ A = 0 ∧ ∀ d, B d = 0) ∨
      ∃ M : ℝ, m = ((M : ℝ) : EReal) ∧ l = ((A * (2 : ℝ) ^ (8 - M) : ℝ) : EReal) ∧ ∀ d, o d = ((B d * (2 : ℝ) ^ (8 - M) / vr : ℝ) : EReal))

theorem inv_ini : Inv ⊥ 0 ((1 : ℝ) : EReal) (fun _ => 0) 0 (fun _ => 0) :=
  ⟨1, one_pos, rfl, Or.inl ⟨rfl, rfl, fun _ => rfl, rfl, fun _ => rfl⟩⟩

theorem exp2_real (x : ℝ) : Ideal.exp2 ((x : ℝ) : EReal) = (((2 : ℝ) ^ x : ℝ) : EReal) := rfl

/-- The weight of a score, masked scores weighing nothing. -/
theorem weight2 (P : Prop) [Decidable P] (x M : ℝ) :
    Ideal.exp2 ((if P then ((x : ℝ) : EReal) else ⊥) - (((M : ℝ) : EReal) - ((8 : ℝ) : EReal))) = (((if P then (2 : ℝ) ^ x else 0) * (2 : ℝ) ^ (8 - M) : ℝ) : EReal) := by
  by_cases h : P
  · rw [if_pos h, if_pos h, ← EReal.coe_sub, ← EReal.coe_sub, exp2_real, ← Real.rpow_add (by norm_num)]
    congr 2
    ring
  · rw [if_neg h, if_neg h, ← EReal.coe_sub, EReal.bot_sub, Ideal.exp2_bot, zero_mul, EReal.coe_zero]

theorem weight2_le (P : Prop) [Decidable P] (x M : ℝ) (h : P → x ≤ M) : 0 ≤ (if P then (2 : ℝ) ^ x else 0) * (2 : ℝ) ^ (8 - M) ∧ (if P then (2 : ℝ) ^ x else 0) * (2 : ℝ) ^ (8 - M) ≤ 448 := by
  by_cases hp : P
  · rw [if_pos hp, ← Real.rpow_add (by norm_num)]
    refine ⟨(Real.rpow_pos_of_pos (by norm_num) _).le, ?_⟩
    refine (Real.rpow_le_rpow_of_exponent_le (by norm_num) (by have := h hp; linarith : x + (8 - M) ≤ 8)).trans ?_
    norm_num
  · rw [if_neg hp, zero_mul]
    norm_num

theorem inv_step {m l v : EReal} {o : Fin 64 → EReal} {A : ℝ} {B : Fin 64 → ℝ} (hI : Inv m l v o A B)
    (s : Fin 128 → EReal) (P : Fin 128 → Prop) [DecidablePred P] (sr : Fin 128 → ℝ) (hs : ∀ r, s r = if P r then ((sr r : ℝ) : EReal) else ⊥) (hP : ∃ r, P r)
    (vc : Fin 64 → Fin 128 → ℝ) (vs : ℝ) (hvs : 0 < vs) {m' : EReal} (hm' : m' = max m (Finset.univ.fold max ⊥ s)) {l' : EReal} {o' : Fin 64 → EReal}
    (hl' : l' = Ideal.exp2 (m - m') * l + ∑ r, Ideal.exp2 (s r - (m' - ((8 : ℝ) : EReal))))
    (ho' : ∀ d, o' d = o d * (Ideal.exp2 (m - m') * Ideal.div v ((vs : ℝ) : EReal)) + ∑ r, ((vc d r : ℝ) : EReal) * clip (Ideal.exp2 (s r - (m' - ((8 : ℝ) : EReal))))) :
    Inv m' l' ((vs : ℝ) : EReal) o' (A + ∑ r, if P r then (2 : ℝ) ^ sr r else 0) (fun d => B d + ∑ r, (if P r then (2 : ℝ) ^ sr r else 0) * (vc d r * vs)) := by
  obtain ⟨vr, hvr, rfl, hc⟩ := hI
  have hmt : m ≠ ⊤ := by
    rcases hc with ⟨rfl, -⟩ | ⟨M, rfl, -⟩
    · exact bot_ne_top
    · exact EReal.coe_ne_top _
  obtain ⟨M', e, hmM, hsM⟩ := max_real m hmt s P sr hs hP
  rw [e] at hm'
  subst hm'
  have hw : ∀ r, Ideal.exp2 (s r - (((M' : ℝ) : EReal) - ((8 : ℝ) : EReal))) = (((if P r then (2 : ℝ) ^ sr r else 0) * (2 : ℝ) ^ (8 - M') : ℝ) : EReal) := fun r => by
    rw [hs, weight2]
  have hcl : ∀ r, clip (Ideal.exp2 (s r - (((M' : ℝ) : EReal) - ((8 : ℝ) : EReal)))) = (((if P r then (2 : ℝ) ^ sr r else 0) * (2 : ℝ) ^ (8 - M') : ℝ) : EReal) := fun r => by
    rw [hw, clip_id (weight2_le _ _ _ (hsM r)).1 (weight2_le _ _ _ (hsM r)).2]
  have hdiv : Ideal.div ((vr : ℝ) : EReal) ((vs : ℝ) : EReal) = ((vr / vs : ℝ) : EReal) := by
    rw [Ideal.div_coe hvs.ne', ← EReal.coe_mul, mul_one_div]
  have hne : ∀ x : ℝ, (2 : ℝ) ^ x ≠ 0 := fun x => (Real.rpow_pos_of_pos (by norm_num) x).ne'
  refine ⟨vs, hvs, rfl, Or.inr ⟨M', rfl, ?_, fun d => ?_⟩⟩
  · rw [hl', Finset.sum_congr rfl fun r _ => hw r, coe_sum, ← Finset.sum_mul]
    rcases hc with ⟨rfl, rfl, -, rfl, -⟩ | ⟨M, rfl, rfl, -⟩
    · rw [mul_zero, zero_add, zero_add]
    · rw [← EReal.coe_sub, exp2_real, ← EReal.coe_mul, ← EReal.coe_add]
      congr 1
      have : (2 : ℝ) ^ (8 - M') = (2 : ℝ) ^ (M - M') * (2 : ℝ) ^ (8 - M) := by
        rw [← Real.rpow_add (by norm_num)]
        congr 1
        ring
      rw [this]
      ring
  · rw [ho', Finset.sum_congr rfl fun r _ => congrArg (((vc d r : ℝ) : EReal) * ·) (hcl r)]
    simp only [← EReal.coe_mul]
    rw [coe_sum, hdiv]
    have hsum : ∑ r, vc d r * ((if P r then (2 : ℝ) ^ sr r else 0) * (2 : ℝ) ^ (8 - M')) = (∑ r, (if P r then (2 : ℝ) ^ sr r else 0) * (vc d r * vs)) * (2 : ℝ) ^ (8 - M') / vs := by
      rw [Finset.sum_mul, Finset.sum_div]
      refine Finset.sum_congr rfl fun r _ => ?_
      field_simp
    rw [hsum]
    rcases hc with ⟨rfl, -, ho, -, hB⟩ | ⟨M, rfl, -, ho⟩
    · rw [ho, zero_mul, zero_add, hB, zero_add]
    · rw [ho, ← EReal.coe_sub, exp2_real, ← EReal.coe_mul, ← EReal.coe_mul, ← EReal.coe_add]
      congr 1
      have : (2 : ℝ) ^ (8 - M') = (2 : ℝ) ^ (M - M') * (2 : ℝ) ^ (8 - M) := by
        rw [← Real.rpow_add (by norm_num)]
        congr 1
        ring
      rw [this]
      field_simp

/-- What the online softmax gives at the end: the quotient of the two sums. -/
theorem inv_out {m l : EReal} {vs : ℝ} {o : Fin 64 → EReal} {A : ℝ} {B : Fin 64 → ℝ} (hI : Inv m l ((vs : ℝ) : EReal) o A B) (hA : 0 < A) (d : Fin 64) :
    Ideal.div (o d * ((vs : ℝ) : EReal)) l = ((B d / A : ℝ) : EReal) := by
  obtain ⟨vr, hvr, e, hc⟩ := hI
  have e' : vs = vr := by exact_mod_cast e
  subst e'
  rcases hc with ⟨-, -, -, rfl, -⟩ | ⟨M, -, rfl, ho⟩
  · exact absurd hA (lt_irrefl _)
  · have hp : (0 : ℝ) < (2 : ℝ) ^ (8 - M) := Real.rpow_pos_of_pos (by norm_num) _
    rw [ho, Ideal.div_coe (mul_pos hA hp).ne', ← EReal.coe_mul, ← EReal.coe_mul]
    congr 1
    field_simp

/-! ## The plain softmax -/

theorem weightE (P : Prop) [Decidable P] (x M : ℝ) :
    Ideal.exp ((if P then ((x : ℝ) : EReal) else ⊥) - ((M : ℝ) : EReal)) = (((if P then Real.exp x else 0) * Real.exp (-M) : ℝ) : EReal) := by
  by_cases h : P
  · rw [if_pos h, if_pos h, ← EReal.coe_sub, Ideal.exp_coe, ← Real.exp_add]
    rfl
  · rw [if_neg h, if_neg h, EReal.bot_sub, Ideal.exp_bot, zero_mul, EReal.coe_zero]

theorem weightE_le (P : Prop) [Decidable P] (x M : ℝ) (h : P → x ≤ M) : 0 ≤ (if P then Real.exp x else 0) * Real.exp (-M) * 256 ∧ (if P then Real.exp x else 0) * Real.exp (-M) * 256 ≤ 448 := by
  by_cases hp : P
  · rw [if_pos hp, ← Real.exp_add]
    have h1 : Real.exp (x + -M) ≤ 1 := Real.exp_le_one_iff.2 (by have := h hp; linarith)
    have h2 := Real.exp_pos (x + -M)
    constructor <;> linarith
  · rw [if_neg hp, zero_mul]
    norm_num

/-- The plain softmax of masked scores against the dequantised values, its probabilities scaled by 256 and clipped. -/
theorem softmax {n : ℕ} (s : Fin n → EReal) (P : Fin n → Prop) [DecidablePred P] (sr : Fin n → ℝ) (hs : ∀ r, s r = if P r then ((sr r : ℝ) : EReal) else ⊥) (hP : ∃ r, P r)
    (vc vs : Fin n → ℝ) :
    Ideal.div (∑ k, clip (Ideal.exp (s k - Finset.univ.fold max ⊥ s) * ((256 : ℝ) : EReal)) * (((vc k : ℝ) : EReal) * (((1 / 256 : ℝ) : EReal) * ((vs k : ℝ) : EReal))))
        (∑ k, Ideal.exp (s k - Finset.univ.fold max ⊥ s))
      = (((∑ k ∈ Finset.univ.filter P, Real.exp (sr k) * (vc k * vs k)) / ∑ k ∈ Finset.univ.filter P, Real.exp (sr k) : ℝ) : EReal) := by
  obtain ⟨M, e, -, hsM⟩ := max_real ⊥ bot_ne_top s P sr hs hP
  rw [max_eq_right bot_le] at e
  rw [e]
  have hw : ∀ k, Ideal.exp (s k - ((M : ℝ) : EReal)) = (((if P k then Real.exp (sr k) else 0) * Real.exp (-M) : ℝ) : EReal) := fun k => by
    rw [hs, weightE]
  have hA : 0 < ∑ k ∈ Finset.univ.filter P, Real.exp (sr k) := by
    obtain ⟨r, hr⟩ := hP
    exact Finset.sum_pos (fun k _ => Real.exp_pos _) ⟨r, Finset.mem_filter.2 ⟨Finset.mem_univ _, hr⟩⟩
  have h1 : ∑ k, Ideal.exp (s k - ((M : ℝ) : EReal)) = (((∑ k ∈ Finset.univ.filter P, Real.exp (sr k)) * Real.exp (-M) : ℝ) : EReal) := by
    rw [Finset.sum_congr rfl fun k _ => hw k, coe_sum, ← Finset.sum_mul, Finset.sum_filter]
  have h2 : ∑ k, clip (Ideal.exp (s k - ((M : ℝ) : EReal)) * ((256 : ℝ) : EReal)) * (((vc k : ℝ) : EReal) * (((1 / 256 : ℝ) : EReal) * ((vs k : ℝ) : EReal))) = (((∑ k ∈ Finset.univ.filter P, Real.exp (sr k) * (vc k * vs k)) * Real.exp (-M) : ℝ) : EReal) := by
    have : ∀ k, clip (Ideal.exp (s k - ((M : ℝ) : EReal)) * ((256 : ℝ) : EReal)) * (((vc k : ℝ) : EReal) * (((1 / 256 : ℝ) : EReal) * ((vs k : ℝ) : EReal))) = (((if P k then Real.exp (sr k) * (vc k * vs k) else 0) * Real.exp (-M) : ℝ) : EReal) := fun k => by
      rw [hw, ← EReal.coe_mul, clip_id (weightE_le _ _ _ (hsM k)).1 (weightE_le _ _ _ (hsM k)).2, ← EReal.coe_mul, ← EReal.coe_mul, ← EReal.coe_mul]
      congr 1
      by_cases h : P k
      · rw [if_pos h, if_pos h]
        ring
      · rw [if_neg h, if_neg h]
        ring
    rw [Finset.sum_congr rfl fun k _ => this k, coe_sum, ← Finset.sum_mul, Finset.sum_filter]
  rw [h1, h2, Ideal.div_coe (mul_pos hA (Real.exp_pos _)).ne', ← EReal.coe_mul]
  congr 1
  have := Real.exp_pos (-M)
  field_simp

end Cert.Spec
-- ==== Proof.Pay.lean ====
module

public import proofs.«01_k».proof.Proof.Body
public import proofs.«01_k».proof.Proof.Tile
public import proofs.«01_k».proof.Proof.Soft
public import Idealize.ShloMosaic.Lib.WordCmp

@[expose] public section

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic

variable (qt : FVec Ideal S64x1024 .fp8e4m3) (qc : FVec Ideal S1x1024 .f32) (kb : Vec Ideal S1x128x64 .fp8e4m3) (ks v vs : EReal) (vb : Vec Ideal S1x64x128 .fp8e4m3) (m l al : FVec Ideal S1x1024 .f32) (o pv f : FVec Ideal S64x1024 .f32) (pc : FVec Ideal S128x1024 .fp8e4m3)
variable (r : Fin 128) (c : Fin 1024) (d : Fin 64) (t : FVec Ideal S64x128 .f32)

/-! ## The payloads of an unmasked block at an index -/

theorem pay3_at : k1_pay3 (F := Ideal) qt qc kb ks (ix2 r c) = (∑ x : Fin 64, kb (ix3 (0 : Fin 1) r x) * qt (ix2 x c)) * (qc (ix2 (0 : Fin 1) c) * ks) := by
  pointwise [k1_pay3]
theorem pay4_at : k1_pay4 (F := Ideal) qt qc m kb ks (ix2 (0 : Fin 1) c) = max (m (ix2 (0 : Fin 1) c)) (Finset.univ.fold max ⊥ fun x : Fin 128 => k1_pay3 (F := Ideal) qt qc kb ks (ix2 x c)) := by
  pointwise [k1_pay4]
  rw [c_ninf]
theorem pay5_at : k1_pay5 (F := Ideal) qt qc m kb ks (ix2 (0 : Fin 1) c) = Ideal.exp2 (m (ix2 (0 : Fin 1) c) - k1_pay4 (F := Ideal) qt qc m kb ks (ix2 (0 : Fin 1) c)) := by
  pointwise [k1_pay5]
  rfl
theorem pay6_at : k1_pay6 (F := Ideal) qt qc m kb ks (ix2 r c) = Ideal.exp2 (k1_pay3 (F := Ideal) qt qc kb ks (ix2 r c) - (k1_pay4 (F := Ideal) qt qc m kb ks (ix2 (0 : Fin 1) c) - ((8 : ℝ) : EReal))) := by
  pointwise [k1_pay6]
  rw [c_8]
  rfl
theorem pay7_at : k1_pay7 (F := Ideal) qt qc m l kb ks (ix2 (0 : Fin 1) c) = k1_pay5 (F := Ideal) qt qc m kb ks (ix2 (0 : Fin 1) c) * l (ix2 (0 : Fin 1) c) + ∑ x : Fin 128, k1_pay6 (F := Ideal) qt qc m kb ks (ix2 x c) := by
  pointwise [k1_pay7]
theorem pay8_at : k1_pay8 (F := Ideal) qt qc m kb ks vb (ix2 d c) = ∑ x : Fin 128, vb (ix3 (0 : Fin 1) d x) * clip (k1_pay6 (F := Ideal) qt qc m kb ks (ix2 x c)) := by
  pointwise [k1_pay8]
  rfl
theorem pay9_at : k1_pay9 (F := Ideal) qt qc m v kb ks vs (ix2 d c) = k1_pay5 (F := Ideal) qt qc m kb ks (ix2 (0 : Fin 1) c) * Ideal.div v vs := by
  pointwise [k1_pay9]
theorem pay86_at : k1_pay86 (F := Ideal) pv o f (ix2 d c) = o (ix2 d c) * f (ix2 d c) + pv (ix2 d c) := by
  pointwise [k1_pay86]

/-! ## The payloads of the masked block at an index -/

theorem and127 (c : Fin 1024) : IntOp.andi (BitVec.ofNat 32 c.val) 127#32 = BitVec.ofNat 32 (c.val % 128) := by
  apply BitVec.eq_of_toNat_eq
  show (BitVec.ofNat 32 c.val &&& 127#32).toNat = _
  rw [BitVec.toNat_and]
  have h := c.isLt
  simp only [BitVec.toNat_ofNat]
  rw [Nat.mod_eq_of_lt (by omega : c.val < 2 ^ 32), Nat.mod_eq_of_lt (by omega : c.val % 128 < 2 ^ 32)]
  exact Nat.and_two_pow_sub_one_eq_mod c.val 7

theorem pay88_at : k1_pay88 (F := Ideal) qt qc kb ks (ix2 r c) = if r.val ≤ c.val % 128 then (∑ x : Fin 64, kb (ix3 (0 : Fin 1) r x) * qt (ix2 x c)) * (qc (ix2 (0 : Fin 1) c) * ks) else ⊥ := by
  pointwise [k1_pay88]
  have h := c.isLt
  have h' := r.isLt
  rw [c_ninf, and127, WordCmp.cmpi_sle_ofNat (by omega) (by omega)]
  by_cases hc : r.val ≤ c.val % 128
  · rw [if_pos hc, decide_eq_true hc]
    rfl
  · rw [if_neg hc, decide_eq_false hc]
    rfl
theorem pay89_at : k1_pay89 (F := Ideal) qt qc m kb ks (ix2 (0 : Fin 1) c) = max (m (ix2 (0 : Fin 1) c)) (Finset.univ.fold max ⊥ fun x : Fin 128 => k1_pay88 (F := Ideal) qt qc kb ks (ix2 x c)) := by
  pointwise [k1_pay89]
  rw [c_ninf]
theorem pay90_at : k1_pay90 (F := Ideal) qt qc m kb ks (ix2 (0 : Fin 1) c) = Ideal.exp2 (m (ix2 (0 : Fin 1) c) - k1_pay89 (F := Ideal) qt qc m kb ks (ix2 (0 : Fin 1) c)) := by
  pointwise [k1_pay90]
  rfl
theorem pay91_at : k1_pay91 (F := Ideal) qt qc m kb ks (ix2 r c) = Ideal.exp2 (k1_pay88 (F := Ideal) qt qc kb ks (ix2 r c) - (k1_pay89 (F := Ideal) qt qc m kb ks (ix2 (0 : Fin 1) c) - ((8 : ℝ) : EReal))) := by
  pointwise [k1_pay91]
  rw [c_8]
  rfl
theorem pay92_at : k1_pay92 (F := Ideal) qt qc m l kb ks (ix2 (0 : Fin 1) c) = k1_pay90 (F := Ideal) qt qc m kb ks (ix2 (0 : Fin 1) c) * l (ix2 (0 : Fin 1) c) + ∑ x : Fin 128, k1_pay91 (F := Ideal) qt qc m kb ks (ix2 x c) := by
  pointwise [k1_pay92]
theorem pay93_at : k1_pay93 (F := Ideal) qt qc m kb ks (ix2 r c) = clip (k1_pay91 (F := Ideal) qt qc m kb ks (ix2 r c)) := by
  pointwise [k1_pay93]
  rfl
theorem pay1_at : k1_pay1 (F := Ideal) v al pc vb vs o (ix2 d c) = o (ix2 d c) * (al (ix2 (0 : Fin 1) c) * Ideal.div v vs) + ∑ x : Fin 128, vb (ix3 (0 : Fin 1) d x) * pc (ix2 x c) := by
  pointwise [k1_pay1]

/-! ## The starting values -/

theorem pay83_at : k1_pay83 (F := Ideal) (ix2 d c) = 0 := by
  pointwise [k1_pay83]
theorem pay84_at : k1_pay84 (F := Ideal) (ix2 (0 : Fin 1) c) = ⊥ := by
  pointwise [k1_pay84]
  exact c_ninf
theorem pay85_at : k1_pay85 (F := Ideal) (ix2 (0 : Fin 1) c) = 0 := by
  pointwise [k1_pay85]

/-! ## The quantiser of a tile -/

theorem fold_max_eq_sup {ι : Type} (s : Finset ι) (f : ι → EReal) : s.fold max ⊥ f = s.sup f := rfl

theorem tAmax_at : tAmax (F := Ideal) t (ix2 (0 : Fin 1) (0 : Fin 1)) = amax fun d r => t (ix2 d r) := by
  pointwise [tAmax]
  rw [c_ninf]
  rfl
theorem tExp_at : tExp (F := Ideal) t (ix2 (0 : Fin 1) (0 : Fin 1)) = expW (amax fun d r => t (ix2 d r)) := by
  pointwise [tExp]
  rw [tAmax_at]
  have h : Named.named (F := Ideal) (φ := .f32) κ "inv_ln2" 1069066811#32 = (((Real.log 2)⁻¹ : ℝ) : EReal) := IdealRules.named_const.ideal_named_scalar κ "inv_ln2" (φ := .f32) 1069066811#32 _ rfl
  erw [h]
  rfl
theorem tScl_at : tScl (F := Ideal) t (ix2 (0 : Fin 1) (0 : Fin 1)) = scl (amax fun d r => t (ix2 d r)) := by
  pointwise [tScl]
  rw [tExp_at]
  rfl
theorem tClip_at (r : Fin 128) : tClip (F := Ideal) t (ix2 d r) = clip (t (ix2 d r) * inv (amax fun d r => t (ix2 d r))) := by
  pointwise [tClip]
  rw [tExp_at]
  rfl
theorem tCod_at (r : Fin 128) : tCod (F := Ideal) t (ix2 d r) = clip (t (ix2 d r) * inv (amax fun d r => t (ix2 d r))) := tClip_at d t r
theorem tCol_at (r : Fin 128) : tCol (F := Ideal) t (ix2 (0 : Fin 1) r) = scl (amax fun d r => t (ix2 d r)) * ((8⁻¹ * (Real.log 2)⁻¹ : ℝ) : EReal) := by
  pointwise [tCol]
  rw [tScl_at]
  exact congrArg (scl (amax fun d r => t (ix2 d r)) * ·) (IdealRules.named_const.ideal_named_scalar κ "sm_log2e" (φ := .f32) 1043900987#32 _ rfl)

/-! ## The query tiles -/

variable (x2 : Vec Ideal S1x128x512 .bf16)

theorem xT_at (h : Fin 8) (r : Fin 128) : xT (F := Ideal) x2 h (ix2 d r) = x2 (ix3 (0 : Fin 1) r (feat h d)) := by
  pointwise [xT, k1_pay17]
  rfl

theorem col_cases (P : Fin 1024 → Prop) (h0 : ∀ (h : Fin 8) (q : Fin 128), P ⟨128 * h.val + q.val, by omega⟩) (c : Fin 1024) : P c := by
  have := h0 ⟨c.val / 128, by omega⟩ ⟨c.val % 128, by omega⟩
  have e : (⟨128 * (c.val / 128) + c.val % 128, by omega⟩ : Fin 1024) = c := Fin.ext (by show 128 * (c.val / 128) + c.val % 128 = c.val; omega)
  rwa [e] at this

/-- Column `128 h + q` of the eight heads side by side. -/
def colOf (h : Fin 8) (q : Fin 128) : Fin 1024 := ⟨128 * h.val + q.val, by omega⟩

theorem qtV_at0 (q : Fin 128) : qtV (F := Ideal) x2 (ix2 d (colOf 0 q)) = tCod (xT x2 0) (ix2 d q) := by
  have hv : (colOf 0 q).val = 0 + q.val := rfl
  have hq := q.isLt
  pointwise [qtV]
  rw [dif_pos (by omega)]
  exact congrArg (fun z => tCod (xT x2 0) (ix2 d z)) (Fin.ext (by show (colOf 0 q).val = q.val; omega))
theorem qtV_at1 (q : Fin 128) : qtV (F := Ideal) x2 (ix2 d (colOf 1 q)) = tCod (xT x2 1) (ix2 d q) := by
  have hv : (colOf 1 q).val = 128 + q.val := rfl
  have hq := q.isLt
  pointwise [qtV]
  rw [dif_neg (by omega)]
  rw [dif_pos (by omega)]
  exact congrArg (fun z => tCod (xT x2 1) (ix2 d z)) (Fin.ext (by show (colOf 1 q).val - 128 = q.val; omega))
theorem qtV_at2 (q : Fin 128) : qtV (F := Ideal) x2 (ix2 d (colOf 2 q)) = tCod (xT x2 2) (ix2 d q) := by
  have hv : (colOf 2 q).val = 256 + q.val := rfl
  have hq := q.isLt
  pointwise [qtV]
  rw [dif_neg (by omega)]
  rw [dif_neg (by omega)]
  rw [dif_pos (by omega)]
  exact congrArg (fun z => tCod (xT x2 2) (ix2 d z)) (Fin.ext (by show (colOf 2 q).val - 128 - 128 = q.val; omega))
theorem qtV_at3 (q : Fin 128) : qtV (F := Ideal) x2 (ix2 d (colOf 3 q)) = tCod (xT x2 3) (ix2 d q) := by
  have hv : (colOf 3 q).val = 384 + q.val := rfl
  have hq := q.isLt
  pointwise [qtV]
  rw [dif_neg (by omega)]
  rw [dif_neg (by omega)]
  rw [dif_neg (by omega)]
  rw [dif_pos (by omega)]
  exact congrArg (fun z => tCod (xT x2 3) (ix2 d z)) (Fin.ext (by show (colOf 3 q).val - 128 - 128 - 128 = q.val; omega))
theorem qtV_at4 (q : Fin 128) : qtV (F := Ideal) x2 (ix2 d (colOf 4 q)) = tCod (xT x2 4) (ix2 d q) := by
  have hv : (colOf 4 q).val = 512 + q.val := rfl
  have hq := q.isLt
  pointwise [qtV]
  rw [dif_neg (by omega)]
  rw [dif_neg (by omega)]
  rw [dif_neg (by omega)]
  rw [dif_neg (by omega)]
  rw [dif_pos (by omega)]
  exact congrArg (fun z => tCod (xT x2 4) (ix2 d z)) (Fin.ext (by show (colOf 4 q).val - 128 - 128 - 128 - 128 = q.val; omega))
theorem qtV_at5 (q : Fin 128) : qtV (F := Ideal) x2 (ix2 d (colOf 5 q)) = tCod (xT x2 5) (ix2 d q) := by
  have hv : (colOf 5 q).val = 640 + q.val := rfl
  have hq := q.isLt
  pointwise [qtV]
  rw [dif_neg (by omega)]
  rw [dif_neg (by omega)]
  rw [dif_neg (by omega)]
  rw [dif_neg (by omega)]
  rw [dif_neg (by omega)]
  rw [dif_pos (by omega)]
  exact congrArg (fun z => tCod (xT x2 5) (ix2 d z)) (Fin.ext (by show (colOf 5 q).val - 128 - 128 - 128 - 128 - 128 = q.val; omega))
theorem qtV_at6 (q : Fin 128) : qtV (F := Ideal) x2 (ix2 d (colOf 6 q)) = tCod (xT x2 6) (ix2 d q) := by
  have hv : (colOf 6 q).val = 768 + q.val := rfl
  have hq := q.isLt
  pointwise [qtV]
  rw [dif_neg (by omega)]
  rw [dif_neg (by omega)]
  rw [dif_neg (by omega)]
  rw [dif_neg (by omega)]
  rw [dif_neg (by omega)]
  rw [dif_neg (by omega)]
  rw [dif_pos (by omega)]
  exact congrArg (fun z => tCod (xT x2 6) (ix2 d z)) (Fin.ext (by show (colOf 6 q).val - 128 - 128 - 128 - 128 - 128 - 128 = q.val; omega))
theorem qtV_at7 (q : Fin 128) : qtV (F := Ideal) x2 (ix2 d (colOf 7 q)) = tCod (xT x2 7) (ix2 d q) := by
  have hv : (colOf 7 q).val = 896 + q.val := rfl
  have hq := q.isLt
  pointwise [qtV]
  rw [dif_neg (by omega)]
  rw [dif_neg (by omega)]
  rw [dif_neg (by omega)]
  rw [dif_neg (by omega)]
  rw [dif_neg (by omega)]
  rw [dif_neg (by omega)]
  rw [dif_neg (by omega)]
  exact congrArg (fun z => tCod (xT x2 7) (ix2 d z)) (Fin.ext (by show (colOf 7 q).val - 128 - 128 - 128 - 128 - 128 - 128 - 128 = q.val; omega))
/-- Piece `h` of the concatenation. -/
theorem qtV_at (h : Fin 8) (q : Fin 128) : qtV (F := Ideal) x2 (ix2 d (colOf h q)) = tCod (xT x2 h) (ix2 d q) := by
  match h with
  | ⟨0, _⟩ => exact qtV_at0 d x2 q
  | ⟨1, _⟩ => exact qtV_at1 d x2 q
  | ⟨2, _⟩ => exact qtV_at2 d x2 q
  | ⟨3, _⟩ => exact qtV_at3 d x2 q
  | ⟨4, _⟩ => exact qtV_at4 d x2 q
  | ⟨5, _⟩ => exact qtV_at5 d x2 q
  | ⟨6, _⟩ => exact qtV_at6 d x2 q
  | ⟨7, _⟩ => exact qtV_at7 d x2 q
theorem qcV_at0 (q : Fin 128) : qcV (F := Ideal) x2 (ix2 (0 : Fin 1) (colOf 0 q)) = tCol (xT x2 0) (ix2 (0 : Fin 1) q) := by
  have hv : (colOf 0 q).val = 0 + q.val := rfl
  have hq := q.isLt
  pointwise [qcV]
  rw [dif_pos (by omega)]
  exact congrArg (fun z => tCol (xT x2 0) (ix2 (0 : Fin 1) z)) (Fin.ext (by show (colOf 0 q).val = q.val; omega))
theorem qcV_at1 (q : Fin 128) : qcV (F := Ideal) x2 (ix2 (0 : Fin 1) (colOf 1 q)) = tCol (xT x2 1) (ix2 (0 : Fin 1) q) := by
  have hv : (colOf 1 q).val = 128 + q.val := rfl
  have hq := q.isLt
  pointwise [qcV]
  rw [dif_neg (by omega)]
  rw [dif_pos (by omega)]
  exact congrArg (fun z => tCol (xT x2 1) (ix2 (0 : Fin 1) z)) (Fin.ext (by show (colOf 1 q).val - 128 = q.val; omega))
theorem qcV_at2 (q : Fin 128) : qcV (F := Ideal) x2 (ix2 (0 : Fin 1) (colOf 2 q)) = tCol (xT x2 2) (ix2 (0 : Fin 1) q) := by
  have hv : (colOf 2 q).val = 256 + q.val := rfl
  have hq := q.isLt
  pointwise [qcV]
  rw [dif_neg (by omega)]
  rw [dif_neg (by omega)]
  rw [dif_pos (by omega)]
  exact congrArg (fun z => tCol (xT x2 2) (ix2 (0 : Fin 1) z)) (Fin.ext (by show (colOf 2 q).val - 128 - 128 = q.val; omega))
theorem qcV_at3 (q : Fin 128) : qcV (F := Ideal) x2 (ix2 (0 : Fin 1) (colOf 3 q)) = tCol (xT x2 3) (ix2 (0 : Fin 1) q) := by
  have hv : (colOf 3 q).val = 384 + q.val := rfl
  have hq := q.isLt
  pointwise [qcV]
  rw [dif_neg (by omega)]
  rw [dif_neg (by omega)]
  rw [dif_neg (by omega)]
  rw [dif_pos (by omega)]
  exact congrArg (fun z => tCol (xT x2 3) (ix2 (0 : Fin 1) z)) (Fin.ext (by show (colOf 3 q).val - 128 - 128 - 128 = q.val; omega))
theorem qcV_at4 (q : Fin 128) : qcV (F := Ideal) x2 (ix2 (0 : Fin 1) (colOf 4 q)) = tCol (xT x2 4) (ix2 (0 : Fin 1) q) := by
  have hv : (colOf 4 q).val = 512 + q.val := rfl
  have hq := q.isLt
  pointwise [qcV]
  rw [dif_neg (by omega)]
  rw [dif_neg (by omega)]
  rw [dif_neg (by omega)]
  rw [dif_neg (by omega)]
  rw [dif_pos (by omega)]
  exact congrArg (fun z => tCol (xT x2 4) (ix2 (0 : Fin 1) z)) (Fin.ext (by show (colOf 4 q).val - 128 - 128 - 128 - 128 = q.val; omega))
theorem qcV_at5 (q : Fin 128) : qcV (F := Ideal) x2 (ix2 (0 : Fin 1) (colOf 5 q)) = tCol (xT x2 5) (ix2 (0 : Fin 1) q) := by
  have hv : (colOf 5 q).val = 640 + q.val := rfl
  have hq := q.isLt
  pointwise [qcV]
  rw [dif_neg (by omega)]
  rw [dif_neg (by omega)]
  rw [dif_neg (by omega)]
  rw [dif_neg (by omega)]
  rw [dif_neg (by omega)]
  rw [dif_pos (by omega)]
  exact congrArg (fun z => tCol (xT x2 5) (ix2 (0 : Fin 1) z)) (Fin.ext (by show (colOf 5 q).val - 128 - 128 - 128 - 128 - 128 = q.val; omega))
theorem qcV_at6 (q : Fin 128) : qcV (F := Ideal) x2 (ix2 (0 : Fin 1) (colOf 6 q)) = tCol (xT x2 6) (ix2 (0 : Fin 1) q) := by
  have hv : (colOf 6 q).val = 768 + q.val := rfl
  have hq := q.isLt
  pointwise [qcV]
  rw [dif_neg (by omega)]
  rw [dif_neg (by omega)]
  rw [dif_neg (by omega)]
  rw [dif_neg (by omega)]
  rw [dif_neg (by omega)]
  rw [dif_neg (by omega)]
  rw [dif_pos (by omega)]
  exact congrArg (fun z => tCol (xT x2 6) (ix2 (0 : Fin 1) z)) (Fin.ext (by show (colOf 6 q).val - 128 - 128 - 128 - 128 - 128 - 128 = q.val; omega))
theorem qcV_at7 (q : Fin 128) : qcV (F := Ideal) x2 (ix2 (0 : Fin 1) (colOf 7 q)) = tCol (xT x2 7) (ix2 (0 : Fin 1) q) := by
  have hv : (colOf 7 q).val = 896 + q.val := rfl
  have hq := q.isLt
  pointwise [qcV]
  rw [dif_neg (by omega)]
  rw [dif_neg (by omega)]
  rw [dif_neg (by omega)]
  rw [dif_neg (by omega)]
  rw [dif_neg (by omega)]
  rw [dif_neg (by omega)]
  rw [dif_neg (by omega)]
  exact congrArg (fun z => tCol (xT x2 7) (ix2 (0 : Fin 1) z)) (Fin.ext (by show (colOf 7 q).val - 128 - 128 - 128 - 128 - 128 - 128 - 128 = q.val; omega))
/-- Piece `h` of the concatenation. -/
theorem qcV_at (h : Fin 8) (q : Fin 128) : qcV (F := Ideal) x2 (ix2 (0 : Fin 1) (colOf h q)) = tCol (xT x2 h) (ix2 (0 : Fin 1) q) := by
  match h with
  | ⟨0, _⟩ => exact qcV_at0 x2 q
  | ⟨1, _⟩ => exact qcV_at1 x2 q
  | ⟨2, _⟩ => exact qcV_at2 x2 q
  | ⟨3, _⟩ => exact qcV_at3 x2 q
  | ⟨4, _⟩ => exact qcV_at4 x2 q
  | ⟨5, _⟩ => exact qcV_at5 x2 q
  | ⟨6, _⟩ => exact qcV_at6 x2 q
  | ⟨7, _⟩ => exact qcV_at7 x2 q

end Cert.KernelIdeal.Val
-- ==== Proof.KvBlock.lean ====
module

public import proofs.«01_k».proof.Proof.Pay

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

section
variable {F : FTy → Type} [FloatOps F] [Named F]

theorem kT_inb (j : Fin 16) (a : Fin 3) : (![0, 0, 128 * j.val] : Fin 3 → ℕ) a + S1x64x128.size a ≤ S1x64x2048.size a := by
  have := j.isLt
  fin_cases a
  · show 0 + 1 ≤ 1
    omega
  · show 0 + 64 ≤ 64
    omega
  · show 128 * j.val + 128 ≤ 2048
    omega

/-- Tile `j` of a block of sixteen tiles (features by tokens). -/
def kT (x : Vec F S1x64x2048 .bf16) (j : Fin 16) : FVec F S64x128 .f32 :=
  k0_pay2 (View.ld x (Rect.unit (s := S1x64x2048) ![0, 0, 128 * j.val] S1x64x128.size (kT_inb j)))

/-- The block of codes, features by tokens. -/
def kTV (x : Vec F S1x64x2048 .bf16) (y : S1x64x2048.Idx) : F .fp8e4m3 :=
  tCod (kT x ⟨(y 2).val / 128, by have : (y 2).val < 2048 := (y 2).isLt; omega⟩) (ix2 (y 1 : Fin 64) (⟨(y 2).val % 128, Nat.mod_lt _ (by decide)⟩ : Fin 128))

/-- The block of codes, tokens by features. -/
def kV (x : Vec F S1x64x2048 .bf16) (y : S1x2048x64.Idx) : F .fp8e4m3 :=
  tCod (kT x ⟨(y 1).val / 128, by have : (y 1).val < 2048 := (y 1).isLt; omega⟩) (ix2 (y 2 : Fin 64) (⟨(y 1).val % 128, Nat.mod_lt _ (by decide)⟩ : Fin 128))

/-- The block of scales. -/
def kSV (x : Vec F S1x64x2048 .bf16) (y : S1x16x128.Idx) : F .f32 := tScl (kT x (y 1 : Fin 16)) (ix2 (0 : Fin 1) (0 : Fin 1))

/-- One tile's codes, stored features by tokens. -/
def pT (t : FVec F S64x128 .f32) : FVec F S1x64x128 .fp8e4m3 := shapeCast S1x64x128 (tCod t) shapeCasts_S64x128_S1x64x128
/-- One tile's codes, stored tokens by features. -/
def pN (t : FVec F S64x128 .f32) : FVec F S1x128x64 .fp8e4m3 :=
  shapeCast S1x128x64 (truncf .fp8e4m3 (transpose S128x64 [1, 0] (tClip t) transposes_S64x128_p1_0_S128x64) bitsLt_fp8e4m3_f32 : FVec F S128x64 .fp8e4m3) shapeCasts_S128x64_S1x128x64
/-- One tile's scale, stored along a row. -/
def pS (t : FVec F S64x128 .f32) : FVec F S1x1x128 .f32 :=
  shapeCast S1x1x128 (broadcastTo S1x128 (shapeCast S1x1 (tScl t) shapeCasts_S1x1_S1x1) broadcasts_S1x1_S1x128) shapeCasts_S1x128_S1x1x128

theorem pT_piece (x : Vec F S1x64x2048 .bf16) (j : Fin 16) (inb : ∀ a, (![0, 0, 128 * j.val] : Fin 3 → ℕ) a + S1x64x128.size a ≤ S1x64x2048.size a) (y : S1x64x128.Idx) :
    pT (kT x j) y = kTV x ((Rect.unit (s := S1x64x2048) ![0, 0, 128 * j.val] S1x64x128.size inb).emb y) := by
  have h0 : (y 0).val < 1 := (y 0).isLt
  have h2 : (y 2).val < 128 := (y 2).isLt
  have e1 : (⟨(((Rect.unit (s := S1x64x2048) ![0, 0, 128 * j.val] S1x64x128.size inb).emb y) 2).val / 128, by have : (((Rect.unit (s := S1x64x2048) ![0, 0, 128 * j.val] S1x64x128.size inb).emb y) 2).val < 2048 := (((Rect.unit (s := S1x64x2048) ![0, 0, 128 * j.val] S1x64x128.size inb).emb y) 2).isLt; omega⟩ : Fin 16) = j := by
    apply Fin.ext
    show (128 * j.val + 1 * (y 2).val) / 128 = j.val
    omega
  unfold kTV
  rw [e1]
  refine Idealize.ShloMosaic.shapeCast_apply _ _ _ _ ?_
  rw [Shape.rowMajor_val_two, Shape.rowMajor_val_three]
  show (0 + 1 * (y 1).val) * 128 + ((128 * j.val + 1 * (y 2).val) % 128) = ((y 0).val * 64 + (y 1).val) * 128 + (y 2).val
  omega

theorem pN_at (t : FVec F S64x128 .f32) (z : Fin 1) (r : Fin 128) (d : Fin 64) : pN t (ix3 z r d) = tCod t (ix2 d r) := by
  have h0 := z.isLt
  unfold pN tCod
  refine (Idealize.ShloMosaic.shapeCast_apply _ _ _ (ix2 r d) ?_).trans ?_
  · rw [Shape.rowMajor_val_two, Shape.rowMajor_val_three]
    show r.val * 64 + d.val = (z.val * 128 + r.val) * 64 + d.val
    omega
  show FloatOps.truncf .fp8e4m3 bitsLt_fp8e4m3_f32 (transpose S128x64 [1, 0] (tClip t) transposes_S64x128_p1_0_S128x64 (ix2 r d)) = FloatOps.truncf .fp8e4m3 bitsLt_fp8e4m3_f32 (tClip t (ix2 d r))
  rw [Idealize.ShloMosaic.transpose_apply [1, 0] (tClip t) transposes_S64x128_p1_0_S128x64 (ix2 r d) (ix2 d r) (by intro a; fin_cases a <;> rfl)]

theorem pN_piece (x : Vec F S1x64x2048 .bf16) (j : Fin 16) (inb : ∀ a, (![0, 128 * j.val, 0] : Fin 3 → ℕ) a + S1x128x64.size a ≤ S1x2048x64.size a) (y : S1x128x64.Idx) :
    pN (kT x j) y = kV x ((Rect.unit (s := S1x2048x64) ![0, 128 * j.val, 0] S1x128x64.size inb).emb y) := by
  have h0 : (y 0).val < 1 := (y 0).isLt
  have h2 : (y 1).val < 128 := (y 1).isLt
  have e1 : (⟨(((Rect.unit (s := S1x2048x64) ![0, 128 * j.val, 0] S1x128x64.size inb).emb y) 1).val / 128, by have : (((Rect.unit (s := S1x2048x64) ![0, 128 * j.val, 0] S1x128x64.size inb).emb y) 1).val < 2048 := (((Rect.unit (s := S1x2048x64) ![0, 128 * j.val, 0] S1x128x64.size inb).emb y) 1).isLt; omega⟩ : Fin 16) = j := by
    apply Fin.ext
    show (128 * j.val + 1 * (y 1).val) / 128 = j.val
    omega
  have e2 : (((Rect.unit (s := S1x2048x64) ![0, 128 * j.val, 0] S1x128x64.size inb).emb y) 2 : Fin 64) = (y 2 : Fin 64) := by
    apply Fin.ext
    show 0 + 1 * (y 2).val = (y 2).val
    omega
  have e3 : (⟨(((Rect.unit (s := S1x2048x64) ![0, 128 * j.val, 0] S1x128x64.size inb).emb y) 1).val % 128, Nat.mod_lt _ (by decide)⟩ : Fin 128) = (y 1 : Fin 128) := by
    apply Fin.ext
    show (128 * j.val + 1 * (y 1).val) % 128 = (y 1).val
    omega
  unfold kV
  rw [e1, e2, e3]
  have ey : y = ix3 (y 0 : Fin 1) (y 1 : Fin 128) (y 2 : Fin 64) := by
    funext a
    fin_cases a <;> rfl
  exact (congrArg (pN (kT x j)) ey).trans (pN_at (kT x j) _ _ _)

theorem pS_piece (x : Vec F S1x64x2048 .bf16) (j : Fin 16) (inb : ∀ a, (![0, j.val, 0] : Fin 3 → ℕ) a + S1x1x128.size a ≤ S1x16x128.size a) (y : S1x1x128.Idx) :
    pS (kT x j) y = kSV x ((Rect.unit (s := S1x16x128) ![0, j.val, 0] S1x1x128.size inb).emb y) := by
  have h0 : (y 0).val < 1 := (y 0).isLt
  have h1 : (y 1).val < 1 := (y 1).isLt
  have e1 : (((Rect.unit (s := S1x16x128) ![0, j.val, 0] S1x1x128.size inb).emb y) 1 : Fin 16) = j := by
    apply Fin.ext
    show j.val + 1 * (y 1).val = j.val
    omega
  unfold kSV
  rw [e1]
  refine (Idealize.ShloMosaic.shapeCast_apply _ _ _ (ix2 (0 : Fin 1) (y 2 : Fin 128)) ?_).trans ?_
  · rw [Shape.rowMajor_val_two, Shape.rowMajor_val_three]
    show 0 * 128 + (y 2).val = ((y 0).val * 1 + (y 1).val) * 128 + (y 2).val
    omega
  refine (Idealize.ShloMosaic.broadcastTo_apply _ _ _ (ix2 (0 : Fin 1) (0 : Fin 1)) ?_).trans ?_
  · intro a
    fin_cases a <;> rfl
  exact Idealize.ShloMosaic.shapeCast_apply _ _ _ _ rfl

variable (x0 x1 : Vec F S1x64x2048 .bf16)

/-- Output window 2 of the first call, at an index. -/
theorem out0_2_eq (y : S1x2048x64.Idx) : out0_2 x0 x1 y = kV x0 y := by
  unfold_out out0_2
  refine View.canon_apply_of_pieces (kV x0) _ ?_ y (cover0_2 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact fun y => pN_piece x0 15 inb_S1x2048x64_S1x128x64_0_1920_0 y
  · exact fun y => pN_piece x0 14 inb_S1x2048x64_S1x128x64_0_1792_0 y
  · exact fun y => pN_piece x0 13 inb_S1x2048x64_S1x128x64_0_1664_0 y
  · exact fun y => pN_piece x0 12 inb_S1x2048x64_S1x128x64_0_1536_0 y
  · exact fun y => pN_piece x0 11 inb_S1x2048x64_S1x128x64_0_1408_0 y
  · exact fun y => pN_piece x0 10 inb_S1x2048x64_S1x128x64_0_1280_0 y
  · exact fun y => pN_piece x0 9 inb_S1x2048x64_S1x128x64_0_1152_0 y
  · exact fun y => pN_piece x0 8 inb_S1x2048x64_S1x128x64_0_1024_0 y
  · exact fun y => pN_piece x0 7 inb_S1x2048x64_S1x128x64_0_896_0 y
  · exact fun y => pN_piece x0 6 inb_S1x2048x64_S1x128x64_0_768_0 y
  · exact fun y => pN_piece x0 5 inb_S1x2048x64_S1x128x64_0_640_0 y
  · exact fun y => pN_piece x0 4 inb_S1x2048x64_S1x128x64_0_512_0 y
  · exact fun y => pN_piece x0 3 inb_S1x2048x64_S1x128x64_0_384_0 y
  · exact fun y => pN_piece x0 2 inb_S1x2048x64_S1x128x64_0_256_0 y
  · exact fun y => pN_piece x0 1 inb_S1x2048x64_S1x128x64_0_128_0 y
  · exact fun y => pN_piece x0 0 inb_S1x2048x64_S1x128x64_0_0_0 y

/-- Output window 3 of the first call, at an index. -/
theorem out0_3_eq (y : S1x64x2048.Idx) : out0_3 x0 x1 y = kTV x0 y := by
  unfold_out out0_3
  refine View.canon_apply_of_pieces (kTV x0) _ ?_ y (cover0_3 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact fun y => pT_piece x0 15 inb_S1x64x2048_S1x64x128_0_0_1920 y
  · exact fun y => pT_piece x0 14 inb_S1x64x2048_S1x64x128_0_0_1792 y
  · exact fun y => pT_piece x0 13 inb_S1x64x2048_S1x64x128_0_0_1664 y
  · exact fun y => pT_piece x0 12 inb_S1x64x2048_S1x64x128_0_0_1536 y
  · exact fun y => pT_piece x0 11 inb_S1x64x2048_S1x64x128_0_0_1408 y
  · exact fun y => pT_piece x0 10 inb_S1x64x2048_S1x64x128_0_0_1280 y
  · exact fun y => pT_piece x0 9 inb_S1x64x2048_S1x64x128_0_0_1152 y
  · exact fun y => pT_piece x0 8 inb_S1x64x2048_S1x64x128_0_0_1024 y
  · exact fun y => pT_piece x0 7 inb_S1x64x2048_S1x64x128_0_0_896 y
  · exact fun y => pT_piece x0 6 inb_S1x64x2048_S1x64x128_0_0_768 y
  · exact fun y => pT_piece x0 5 inb_S1x64x2048_S1x64x128_0_0_640 y
  · exact fun y => pT_piece x0 4 inb_S1x64x2048_S1x64x128_0_0_512 y
  · exact fun y => pT_piece x0 3 inb_S1x64x2048_S1x64x128_0_0_384 y
  · exact fun y => pT_piece x0 2 inb_S1x64x2048_S1x64x128_0_0_256 y
  · exact fun y => pT_piece x0 1 inb_S1x64x2048_S1x64x128_0_0_128 y
  · exact fun y => pT_piece x0 0 inb_S1x64x2048_S1x64x128_0_0_0 y

/-- Output window 4 of the first call, at an index. -/
theorem out0_4_eq (y : S1x64x2048.Idx) : out0_4 x0 x1 y = kTV x1 y := by
  unfold_out out0_4
  refine View.canon_apply_of_pieces (kTV x1) _ ?_ y (cover0_4 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact fun y => pT_piece x1 15 inb_S1x64x2048_S1x64x128_0_0_1920 y
  · exact fun y => pT_piece x1 14 inb_S1x64x2048_S1x64x128_0_0_1792 y
  · exact fun y => pT_piece x1 13 inb_S1x64x2048_S1x64x128_0_0_1664 y
  · exact fun y => pT_piece x1 12 inb_S1x64x2048_S1x64x128_0_0_1536 y
  · exact fun y => pT_piece x1 11 inb_S1x64x2048_S1x64x128_0_0_1408 y
  · exact fun y => pT_piece x1 10 inb_S1x64x2048_S1x64x128_0_0_1280 y
  · exact fun y => pT_piece x1 9 inb_S1x64x2048_S1x64x128_0_0_1152 y
  · exact fun y => pT_piece x1 8 inb_S1x64x2048_S1x64x128_0_0_1024 y
  · exact fun y => pT_piece x1 7 inb_S1x64x2048_S1x64x128_0_0_896 y
  · exact fun y => pT_piece x1 6 inb_S1x64x2048_S1x64x128_0_0_768 y
  · exact fun y => pT_piece x1 5 inb_S1x64x2048_S1x64x128_0_0_640 y
  · exact fun y => pT_piece x1 4 inb_S1x64x2048_S1x64x128_0_0_512 y
  · exact fun y => pT_piece x1 3 inb_S1x64x2048_S1x64x128_0_0_384 y
  · exact fun y => pT_piece x1 2 inb_S1x64x2048_S1x64x128_0_0_256 y
  · exact fun y => pT_piece x1 1 inb_S1x64x2048_S1x64x128_0_0_128 y
  · exact fun y => pT_piece x1 0 inb_S1x64x2048_S1x64x128_0_0_0 y

/-- Output window 5 of the first call, at an index. -/
theorem out0_5_eq (y : S1x16x128.Idx) : out0_5 x0 x1 y = kSV x0 y := by
  unfold_out out0_5
  refine View.canon_apply_of_pieces (kSV x0) _ ?_ y (cover0_5 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact fun y => pS_piece x0 15 inb_S1x16x128_S1x1x128_0_15_0 y
  · exact fun y => pS_piece x0 14 inb_S1x16x128_S1x1x128_0_14_0 y
  · exact fun y => pS_piece x0 13 inb_S1x16x128_S1x1x128_0_13_0 y
  · exact fun y => pS_piece x0 12 inb_S1x16x128_S1x1x128_0_12_0 y
  · exact fun y => pS_piece x0 11 inb_S1x16x128_S1x1x128_0_11_0 y
  · exact fun y => pS_piece x0 10 inb_S1x16x128_S1x1x128_0_10_0 y
  · exact fun y => pS_piece x0 9 inb_S1x16x128_S1x1x128_0_9_0 y
  · exact fun y => pS_piece x0 8 inb_S1x16x128_S1x1x128_0_8_0 y
  · exact fun y => pS_piece x0 7 inb_S1x16x128_S1x1x128_0_7_0 y
  · exact fun y => pS_piece x0 6 inb_S1x16x128_S1x1x128_0_6_0 y
  · exact fun y => pS_piece x0 5 inb_S1x16x128_S1x1x128_0_5_0 y
  · exact fun y => pS_piece x0 4 inb_S1x16x128_S1x1x128_0_4_0 y
  · exact fun y => pS_piece x0 3 inb_S1x16x128_S1x1x128_0_3_0 y
  · exact fun y => pS_piece x0 2 inb_S1x16x128_S1x1x128_0_2_0 y
  · exact fun y => pS_piece x0 1 inb_S1x16x128_S1x1x128_0_1_0 y
  · exact fun y => pS_piece x0 0 inb_S1x16x128_S1x1x128_0_0_0 y

/-- Output window 6 of the first call, at an index. -/
theorem out0_6_eq (y : S1x16x128.Idx) : out0_6 x0 x1 y = kSV x1 y := by
  unfold_out out0_6
  refine View.canon_apply_of_pieces (kSV x1) _ ?_ y (cover0_6 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact fun y => pS_piece x1 15 inb_S1x16x128_S1x1x128_0_15_0 y
  · exact fun y => pS_piece x1 14 inb_S1x16x128_S1x1x128_0_14_0 y
  · exact fun y => pS_piece x1 13 inb_S1x16x128_S1x1x128_0_13_0 y
  · exact fun y => pS_piece x1 12 inb_S1x16x128_S1x1x128_0_12_0 y
  · exact fun y => pS_piece x1 11 inb_S1x16x128_S1x1x128_0_11_0 y
  · exact fun y => pS_piece x1 10 inb_S1x16x128_S1x1x128_0_10_0 y
  · exact fun y => pS_piece x1 9 inb_S1x16x128_S1x1x128_0_9_0 y
  · exact fun y => pS_piece x1 8 inb_S1x16x128_S1x1x128_0_8_0 y
  · exact fun y => pS_piece x1 7 inb_S1x16x128_S1x1x128_0_7_0 y
  · exact fun y => pS_piece x1 6 inb_S1x16x128_S1x1x128_0_6_0 y
  · exact fun y => pS_piece x1 5 inb_S1x16x128_S1x1x128_0_5_0 y
  · exact fun y => pS_piece x1 4 inb_S1x16x128_S1x1x128_0_4_0 y
  · exact fun y => pS_piece x1 3 inb_S1x16x128_S1x1x128_0_3_0 y
  · exact fun y => pS_piece x1 2 inb_S1x16x128_S1x1x128_0_2_0 y
  · exact fun y => pS_piece x1 1 inb_S1x16x128_S1x1x128_0_1_0 y
  · exact fun y => pS_piece x1 0 inb_S1x16x128_S1x1x128_0_0_0 y

end

/-! ## The blocks over the reals -/

variable (a1 : (⟨3, ![2, 32768, 64]⟩ : Shape).Idx → EReal) (x : Vec Ideal S1x64x2048 .bf16) (b : Fin 2) (m : Fin 16)

/-- Token `c` of block `m` of sixteen tiles. -/
def btok (m : Fin 16) (c : Fin 2048) : Fin 32768 := ⟨2048 * m.val + c.val, by omega⟩

theorem kT_at (j : Fin 16) (d : Fin 64) (r : Fin 128) : kT (F := Ideal) x j (ix2 d r) = x (ix3 (0 : Fin 1) d (⟨128 * j.val + r.val, by omega⟩ : Fin 2048)) := by
  unfold kT
  pointwise [k0_pay2]

variable (hx : ∀ d c, x (ix3 (0 : Fin 1) d c) = a1 (ix3 b (btok m c) d))
include hx

theorem kT_tile (j : Fin 16) : (fun d r => kT (F := Ideal) x j (ix2 d r)) = kTile a1 b ⟨16 * m.val + j.val, by omega⟩ := by
  funext d r
  rw [kT_at, hx]
  unfold kTile
  congr 2
  apply Fin.ext
  show 2048 * m.val + (128 * j.val + r.val) = 128 * (16 * m.val + j.val) + r.val
  omega

/-- The codes of a block are the codes of the array. -/
theorem kCode_val (c : Fin 2048) (d : Fin 64) : tCod (F := Ideal) (kT x ⟨c.val / 128, by omega⟩) (ix2 d (⟨c.val % 128, Nat.mod_lt _ (by decide)⟩ : Fin 128)) = kCod a1 b (btok m c) d := by
  rw [tCod_at, kT_tile a1 x b m hx, kT_at, hx]
  unfold kCod
  have e1 : btok m (⟨128 * (c.val / 128) + c.val % 128, by omega⟩ : Fin 2048) = btok m c := by
    apply Fin.ext
    show 2048 * m.val + (128 * (c.val / 128) + c.val % 128) = 2048 * m.val + c.val
    omega
  have e2 : (⟨16 * m.val + c.val / 128, by omega⟩ : Fin 256) = blk (btok m c) := by
    apply Fin.ext
    show 16 * m.val + c.val / 128 = (2048 * m.val + c.val) / 128
    omega
  rw [← e2]
  rw [show a1 (ix3 b (btok m (⟨128 * (c.val / 128) + c.val % 128, by omega⟩ : Fin 2048)) d) = a1 (ix3 b (btok m c) d) from congrArg (fun z => a1 (ix3 b z d)) e1]

/-- The block of codes, tokens by features. -/
theorem kV_val (c : Fin 2048) (d : Fin 64) : kV (F := Ideal) x (ix3 (0 : Fin 1) c d) = kCod a1 b (btok m c) d := kCode_val a1 x b m hx c d
/-- The block of codes, features by tokens. -/
theorem kTV_val (c : Fin 2048) (d : Fin 64) : kTV (F := Ideal) x (ix3 (0 : Fin 1) d c) = kCod a1 b (btok m c) d := kCode_val a1 x b m hx c d
/-- The block of scales. -/
theorem kSV_val (j : Fin 16) (q : Fin 128) : kSV (F := Ideal) x (ix3 (0 : Fin 1) j q) = kScl a1 b ⟨16 * m.val + j.val, by omega⟩ := by
  show tScl (F := Ideal) (kT x j) (ix2 (0 : Fin 1) (0 : Fin 1)) = _
  rw [tScl_at, kT_tile a1 x b m hx]
  rfl

end Cert.KernelIdeal.Val
-- ==== Proof.Att.lean ====
module

public import proofs.«01_k».proof.Proof.Body
public import proofs.«01_k».proof.Proof.Tile
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

variable (c : Dev nD) (i : grid1.Coords) (arg2 : Memref sig .tc .smem S2x256 .f32) (harg2 : arg2.IsWhole) (arg3 : Memref sig .tc .smem S2x256 .f32) (harg3 : arg3.IsWhole) (arg4 : Memref sig .tc .vmem S1x128x512 .bf16) (harg4 : arg4.IsWhole) (arg5 : Memref sig .tc .vmem S1x32768x64 .fp8e4m3) (harg5 : arg5.IsWhole) (arg6 : Memref sig .tc .vmem S1x64x32768 .fp8e4m3) (harg6 : arg6.IsWhole) (arg7 : Memref sig .tc .vmem S1x128x512 .bf16) (harg7 : arg7.IsWhole) (arg8 : Memref sig .tc .vmem S1x512x128 .fp8e4m3) (harg8 : arg8.IsWhole) (arg9 : Memref sig .tc .vmem S1x1x8x128 .f32) (harg9 : arg9.IsWhole) (arg10 : Memref sig .tc .vmem S64x1024 .f32) (harg10 : arg10.IsWhole)
variable (x0 : Vec F S2x256 .f32) (x1 : Vec F S2x256 .f32) (x2 : Vec F S1x128x512 .bf16) (x3 : Vec F S1x32768x64 .fp8e4m3) (x4 : Vec F S1x64x32768 .fp8e4m3)

theorem xread : View.readAt (Elt F) arg4.view (Rect.unit (s := S1x128x512) ![0, 0, 0] S1x128x512.size inb_S1x128x512_S1x128x512_0_0_0).toLoadRect (harg4.unread x2) = x2 := by
  rw [View.readAt_full, harg4.read_unread]

theorem r_eq : kernelRun1_A.sl.r c arg4 harg4 x2 = k1_pay17 x2 := by
  unfold kernelRun1_A.sl.r
  rw [xread]

/-- The concatenated query codes. -/
theorem r32_eq : kernelRun1_A.sl.r_32 c arg4 harg4 x2 = qtV x2 := by
  unfold kernelRun1_A.sl.r_32 kernelRun1_A.sl.r_2 kernelRun1_A.sl.r_6 kernelRun1_A.sl.r_9 kernelRun1_A.sl.r_13 kernelRun1_A.sl.r_12 kernelRun1_A.sl.r_17 kernelRun1_A.sl.r_16 kernelRun1_A.sl.r_22 kernelRun1_A.sl.r_19 kernelRun1_A.sl.r_21 kernelRun1_A.sl.r_27 kernelRun1_A.sl.r_24 kernelRun1_A.sl.r_25 kernelRun1_A.sl.r_29 kernelRun1_A.sl.r_30 kernelRun1_A.sl.r_31
  rw [r_eq, xread]
  rfl

/-- The concatenated column scales. -/
theorem r33_eq : kernelRun1_A.sl.r_33 c arg4 harg4 x2 = qcV x2 := by
  unfold kernelRun1_A.sl.r_33 kernelRun1_A.sl.r_4 kernelRun1_A.sl.r_1 kernelRun1_A.sl.r_7 kernelRun1_A.sl.r_5 kernelRun1_A.sl.r_10 kernelRun1_A.sl.r_8 kernelRun1_A.sl.r_14 kernelRun1_A.sl.r_11 kernelRun1_A.sl.r_18 kernelRun1_A.sl.r_15 kernelRun1_A.sl.r_23 kernelRun1_A.sl.r_20 kernelRun1_A.sl.r_28 kernelRun1_A.sl.r_26 kernelRun1_A.sl.r_30 kernelRun1_A.sl.r_31
  rw [r_eq, xread]
  rfl

/-- The state of the softmax after the unmasked blocks of query block `i 1`. -/
def sAt (i : grid1.Coords) : OSt F := iterU (qtV x2) (qcV x2) (kbN x3) (vbN x4) (scN x0 (i 0)) (scN x1 (i 0)) (i 1).val

abbrev S1 := st_k1_t1 (F := F) Variants.none c none i arg2 harg2 arg3 harg3 arg4 harg4 arg5 harg5 arg6 harg6 arg7 harg7 arg8 harg8 arg9 harg9 arg10 harg10 (BitVec.ofNat 32 ↑(i 0)) (BitVec.ofNat 32 ↑(i 1)) (kernelRun1_A.sl.r_32 c arg4 harg4 x2) (kernelRun1_A.sl.r_33 c arg4 harg4 x2) k1_pay84 k1_pay85 0#32 kernelRun1_A.sl.cst_135 (kernelRun1_A.sl.v364 i) 1#32 (harg2.unread x0) (harg3.unread x1) (harg5.unread x3) (harg6.unread x4) (arg10.view.writes (Elt F) arg10.view.junk kernelRun1_A.sl.HS0_1) (k1_pay84, k1_pay85, kernelRun1_A.sl.cst_135) (Scf.trips (k1_t1_loop i).lb (k1_t1_loop i).ub (k1_t1_loop i).st)

theorem hG : oAt arg10 (arg10.view.writes (Elt F) arg10.view.junk kernelRun1_A.sl.HS0_1) = (k1_pay83 : FVec F S64x1024 .f32) := by
  unfold kernelRun1_A.sl.HS0_1
  exact View.readAt_writes_full arg10.view _ _ _ _ _

theorem s1_val :
    (S1 c i arg2 harg2 arg3 harg3 arg4 harg4 arg5 harg5 arg6 harg6 arg7 harg7 arg8 harg8 arg9 harg9 arg10 harg10 x0 x1 x2 x3 x4).1 = ((sAt x0 x1 x2 x3 x4 i).m, (sAt x0 x1 x2 x3 x4 i).l, (sAt x0 x1 x2 x3 x4 i).v)
    ∧ oAt arg10 (arg10.view.writes (Elt F) arg10.view.junk ((S1 c i arg2 harg2 arg3 harg3 arg4 harg4 arg5 harg5 arg6 harg6 arg7 harg7 arg8 harg8 arg9 harg9 arg10 harg10 x0 x1 x2 x3 x4).2 ++ kernelRun1_A.sl.HS0_1)) = (sAt x0 x1 x2 x3 x4 i).o := by
  have h := st_val (F := F) Variants.none c none i arg2 harg2 arg3 harg3 arg4 harg4 arg5 harg5 arg6 harg6 arg7 harg7 arg8 harg8 arg9 harg9 arg10 harg10 (BitVec.ofNat 32 ↑(i 0)) (BitVec.ofNat 32 ↑(i 1)) (kernelRun1_A.sl.r_32 c arg4 harg4 x2) (kernelRun1_A.sl.r_33 c arg4 harg4 x2) k1_pay84 k1_pay85 0#32 kernelRun1_A.sl.cst_135 (kernelRun1_A.sl.v364 i) 1#32 x0 x1 x3 x4 (arg10.view.writes (Elt F) arg10.view.junk kernelRun1_A.sl.HS0_1) (hG arg10) (k1_t1_loop i).trips le_rfl
  rw [View.writes_append]
  have hs : (sAt x0 x1 x2 x3 x4 i : OSt F) = iterU (kernelRun1_A.sl.r_32 c arg4 harg4 x2) (kernelRun1_A.sl.r_33 c arg4 harg4 x2) (kbN x3) (vbN x4) (scN x0 (i 0)) (scN x1 (i 0)) (k1_t1_loop i).trips := by
    rw [r32_eq, r33_eq, trips1]
    rfl
  rw [hs]
  exact h

/-- The new output of the masked block. -/
def oLast (i : grid1.Coords) : FVec F S64x1024 .f32 :=
  k1_pay1 (sAt x0 x1 x2 x3 x4 i).v (k1_pay90 (qtV x2) (qcV x2) (sAt x0 x1 x2 x3 x4 i).m (kbN x3 (i 1).val) (scN x0 (i 0) (i 1).val))
    (k1_pay93 (qtV x2) (qcV x2) (sAt x0 x1 x2 x3 x4 i).m (kbN x3 (i 1).val) (scN x0 (i 0) (i 1).val)) (vbN x4 (i 1).val) (scN x1 (i 0) (i 1).val) (sAt x0 x1 x2 x3 x4 i).o
/-- The new sum of the masked block. -/
def lLast (i : grid1.Coords) : FVec F S1x1024 .f32 :=
  k1_pay92 (qtV x2) (qcV x2) (sAt x0 x1 x2 x3 x4 i).m (sAt x0 x1 x2 x3 x4 i).l (kbN x3 (i 1).val) (scN x0 (i 0) (i 1).val)

theorem r34_eq : kernelRun1_A.sl.r_34 i arg2 harg2 x0 = scN x0 (i 0) (i 1).val := by
  unfold kernelRun1_A.sl.r_34
  exact sread arg2 harg2 x0 (i 0) (i 1).val (k1_off8_inb i) (k1_off8_eq i) _
theorem r39_eq : kernelRun1_A.sl.r_39 i arg3 harg3 x1 = scN x1 (i 0) (i 1).val := by
  unfold kernelRun1_A.sl.r_39
  exact sread arg3 harg3 x1 (i 0) (i 1).val (k1_off8_inb i) (k1_off8_eq i) _

theorem t2z : Scf.trips (k1_t2_loop i).lb (k1_t2_loop i).ub (k1_t2_loop i).st = 0 := trips2 i

theorem r35_eq : kernelRun1_A.sl.r_35 c i arg2 harg2 arg3 harg3 arg4 harg4 arg5 harg5 arg6 harg6 arg7 harg7 arg8 harg8 arg9 harg9 arg10 harg10 x0 x1 x2 x3 x4 = (sAt x0 x1 x2 x3 x4 i).v := by
  unfold kernelRun1_A.sl.r_35
  rw [t2z]
  show (S1 c i arg2 harg2 arg3 harg3 arg4 harg4 arg5 harg5 arg6 harg6 arg7 harg7 arg8 harg8 arg9 harg9 arg10 harg10 x0 x1 x2 x3 x4).1.2.2 = _
  rw [(s1_val c i arg2 harg2 arg3 harg3 arg4 harg4 arg5 harg5 arg6 harg6 arg7 harg7 arg8 harg8 arg9 harg9 arg10 harg10 x0 x1 x2 x3 x4).1]

theorem r36_eq : kernelRun1_A.sl.r_36 c i arg2 harg2 arg3 harg3 arg4 harg4 arg5 harg5 arg6 harg6 arg7 harg7 arg8 harg8 arg9 harg9 arg10 harg10 x0 x1 x2 x3 x4 = k1_pay90 (qtV x2) (qcV x2) (sAt x0 x1 x2 x3 x4 i).m (kbN x3 (i 1).val) (scN x0 (i 0) (i 1).val) := by
  unfold kernelRun1_A.sl.r_36
  rw [t2z, kread arg5 harg5 x3 (i 1).val (k1_off7_inb i) (k1_off7_eq i), r34_eq]
  show k1_pay90 _ _ (S1 c i arg2 harg2 arg3 harg3 arg4 harg4 arg5 harg5 arg6 harg6 arg7 harg7 arg8 harg8 arg9 harg9 arg10 harg10 x0 x1 x2 x3 x4).1.1 _ _ = _
  rw [(s1_val c i arg2 harg2 arg3 harg3 arg4 harg4 arg5 harg5 arg6 harg6 arg7 harg7 arg8 harg8 arg9 harg9 arg10 harg10 x0 x1 x2 x3 x4).1, r32_eq, r33_eq]

theorem r37_eq : kernelRun1_A.sl.r_37 c i arg2 harg2 arg3 harg3 arg4 harg4 arg5 harg5 arg6 harg6 arg7 harg7 arg8 harg8 arg9 harg9 arg10 harg10 x0 x1 x2 x3 x4 = lLast x0 x1 x2 x3 x4 i := by
  unfold kernelRun1_A.sl.r_37
  rw [t2z, kread arg5 harg5 x3 (i 1).val (k1_off7_inb i) (k1_off7_eq i), r34_eq]
  show k1_pay92 _ _ (S1 c i arg2 harg2 arg3 harg3 arg4 harg4 arg5 harg5 arg6 harg6 arg7 harg7 arg8 harg8 arg9 harg9 arg10 harg10 x0 x1 x2 x3 x4).1.1 (S1 c i arg2 harg2 arg3 harg3 arg4 harg4 arg5 harg5 arg6 harg6 arg7 harg7 arg8 harg8 arg9 harg9 arg10 harg10 x0 x1 x2 x3 x4).1.2.1 _ _ = _
  rw [(s1_val c i arg2 harg2 arg3 harg3 arg4 harg4 arg5 harg5 arg6 harg6 arg7 harg7 arg8 harg8 arg9 harg9 arg10 harg10 x0 x1 x2 x3 x4).1, r32_eq, r33_eq]
  rfl

theorem r38_eq : kernelRun1_A.sl.r_38 c i arg2 harg2 arg3 harg3 arg4 harg4 arg5 harg5 arg6 harg6 arg7 harg7 arg8 harg8 arg9 harg9 arg10 harg10 x0 x1 x2 x3 x4 = k1_pay93 (qtV x2) (qcV x2) (sAt x0 x1 x2 x3 x4 i).m (kbN x3 (i 1).val) (scN x0 (i 0) (i 1).val) := by
  unfold kernelRun1_A.sl.r_38
  rw [t2z, kread arg5 harg5 x3 (i 1).val (k1_off7_inb i) (k1_off7_eq i), r34_eq]
  show k1_pay93 _ _ (S1 c i arg2 harg2 arg3 harg3 arg4 harg4 arg5 harg5 arg6 harg6 arg7 harg7 arg8 harg8 arg9 harg9 arg10 harg10 x0 x1 x2 x3 x4).1.1 _ _ = _
  rw [(s1_val c i arg2 harg2 arg3 harg3 arg4 harg4 arg5 harg5 arg6 harg6 arg7 harg7 arg8 harg8 arg9 harg9 arg10 harg10 x0 x1 x2 x3 x4).1, r32_eq, r33_eq]

theorem v417_eq : kernelRun1_A.sl.v417 c i arg2 harg2 arg3 harg3 arg4 harg4 arg5 harg5 arg6 harg6 arg7 harg7 arg8 harg8 arg9 harg9 arg10 harg10 x0 x1 x2 x3 x4 = (sAt x0 x1 x2 x3 x4 i).o := by
  unfold kernelRun1_A.sl.v417
  rw [t2z]
  exact (s1_val c i arg2 harg2 arg3 harg3 arg4 harg4 arg5 harg5 arg6 harg6 arg7 harg7 arg8 harg8 arg9 harg9 arg10 harg10 x0 x1 x2 x3 x4).2

theorem v427_eq : kernelRun1_A.sl.v427 c i arg2 harg2 arg3 harg3 arg4 harg4 arg5 harg5 arg6 harg6 arg7 harg7 arg8 harg8 arg9 harg9 arg10 harg10 x0 x1 x2 x3 x4 = oLast x0 x1 x2 x3 x4 i := by
  unfold kernelRun1_A.sl.v427 kernelRun1_A.sl.HS0_1_1
  refine (View.readCov_full arg10.view _ _ _ _).trans ?_
  rw [r35_eq, r36_eq, r38_eq, r39_eq, v417_eq, vread arg6 harg6 x4 (i 1).val (k1_off9_inb i) (k1_off9_eq i)]
  rfl

/-- The block of `y` that the attention body leaves. -/
theorem out5_eq : out1_A_5 c i arg2 harg2 arg3 harg3 arg4 harg4 arg5 harg5 arg6 harg6 arg7 harg7 arg8 harg8 arg9 harg9 arg10 harg10 x0 x1 x2 x3 x4 = k1_pay2 (lLast x0 x1 x2 x3 x4 i) (scN x1 (i 0) (i 1).val) (oLast x0 x1 x2 x3 x4 i) := by
  unfold out1_A_5 kernelRun1_A
  dsimp only
  refine (View.read_writes_full _ _ _ _ _).trans ?_
  rw [r37_eq, r39_eq, v427_eq]

/-- The block of transposed query codes that the attention body leaves. -/
theorem out6_eq (y : S1x512x128.Idx) : out1_A_6 c i arg2 harg2 arg3 harg3 arg4 harg4 arg5 harg5 arg6 harg6 arg7 harg7 arg8 harg8 arg9 harg9 arg10 harg10 x0 x1 x2 x3 x4 y = q6 x2 y := by
  unfold out1_A_6
  rw [View.read_writes_junk_eq_canon]
  refine View.canon_apply_of_pieces (q6 x2) _ ?_ y (cover1_A_6 c i arg2 harg2 arg3 harg3 arg4 harg4 arg5 harg5 arg6 harg6 arg7 harg7 arg8 harg8 arg9 harg9 arg10 harg10 x0 x1 x2 x3 x4 y)
  have e : (kernelRun1_A c i arg2 harg2 arg3 harg3 arg4 harg4 arg5 harg5 arg6 harg6 arg7 harg7 arg8 harg8 arg9 harg9 arg10 harg10 x0 x1 x2 x3 x4).2.1 = kernelRun1_A.sl.H6_8 c arg4 harg4 x2 := by
    unfold kernelRun1_A
    rfl
  rw [e]
  unfold kernelRun1_A.sl.H6_8 kernelRun1_A.sl.r_6 kernelRun1_A.sl.r_9 kernelRun1_A.sl.r_12 kernelRun1_A.sl.r_16 kernelRun1_A.sl.r_19 kernelRun1_A.sl.r_21 kernelRun1_A.sl.r_24 kernelRun1_A.sl.r_25 kernelRun1_A.sl.r_29 kernelRun1_A.sl.r_30 kernelRun1_A.sl.r_31
  rw [r_eq, xread]
  intro p hp
  simp only [List.mem_cons, List.mem_nil_iff, or_false] at hp
  rcases hp with rfl | rfl | rfl | rfl | rfl | rfl | rfl | rfl
  · exact fun x => q6_piece x2 7 inb_S1x512x128_S1x64x128_0_448_0 x
  · exact fun x => q6_piece x2 6 inb_S1x512x128_S1x64x128_0_384_0 x
  · exact fun x => q6_piece x2 5 inb_S1x512x128_S1x64x128_0_320_0 x
  · exact fun x => q6_piece x2 4 inb_S1x512x128_S1x64x128_0_256_0 x
  · exact fun x => q6_piece x2 3 inb_S1x512x128_S1x64x128_0_192_0 x
  · exact fun x => q6_piece x2 2 inb_S1x512x128_S1x64x128_0_128_0 x
  · exact fun x => q6_piece x2 1 inb_S1x512x128_S1x64x128_0_64_0 x
  · exact fun x => q6_piece x2 0 inb_S1x512x128_S1x64x128_0_0_0 x

/-- The block of query scales that the attention body leaves. -/
theorem out7_eq (y : S1x1x8x128.Idx) : out1_A_7 c i arg2 harg2 arg3 harg3 arg4 harg4 arg5 harg5 arg6 harg6 arg7 harg7 arg8 harg8 arg9 harg9 arg10 harg10 x0 x1 x2 x3 x4 y = q7 x2 y := by
  unfold out1_A_7
  rw [View.read_writes_junk_eq_canon]
  refine View.canon_apply_of_pieces (q7 x2) _ ?_ y (cover1_A_7 c i arg2 harg2 arg3 harg3 arg4 harg4 arg5 harg5 arg6 harg6 arg7 harg7 arg8 harg8 arg9 harg9 arg10 harg10 x0 x1 x2 x3 x4 y)
  have e : (kernelRun1_A c i arg2 harg2 arg3 harg3 arg4 harg4 arg5 harg5 arg6 harg6 arg7 harg7 arg8 harg8 arg9 harg9 arg10 harg10 x0 x1 x2 x3 x4).2.2.1 = kernelRun1_A.sl.H7_8 c arg4 harg4 x2 := by
    unfold kernelRun1_A
    rfl
  rw [e]
  unfold kernelRun1_A.sl.H7_8 kernelRun1_A.sl.r_3 kernelRun1_A.sl.r_5 kernelRun1_A.sl.r_8 kernelRun1_A.sl.r_11 kernelRun1_A.sl.r_15 kernelRun1_A.sl.r_20 kernelRun1_A.sl.r_26 kernelRun1_A.sl.r_30 kernelRun1_A.sl.r_31
  rw [r_eq, xread]
  intro p hp
  simp only [List.mem_cons, List.mem_nil_iff, or_false] at hp
  rcases hp with rfl | rfl | rfl | rfl | rfl | rfl | rfl | rfl
  · exact fun x => q7_piece x2 7 inb_S1x1x8x128_S1x1x1x128_0_0_7_0 x
  · exact fun x => q7_piece x2 6 inb_S1x1x8x128_S1x1x1x128_0_0_6_0 x
  · exact fun x => q7_piece x2 5 inb_S1x1x8x128_S1x1x1x128_0_0_5_0 x
  · exact fun x => q7_piece x2 4 inb_S1x1x8x128_S1x1x1x128_0_0_4_0 x
  · exact fun x => q7_piece x2 3 inb_S1x1x8x128_S1x1x1x128_0_0_3_0 x
  · exact fun x => q7_piece x2 2 inb_S1x1x8x128_S1x1x1x128_0_0_2_0 x
  · exact fun x => q7_piece x2 1 inb_S1x1x8x128_S1x1x1x128_0_0_1_0 x
  · exact fun x => q7_piece x2 0 inb_S1x1x8x128_S1x1x1x128_0_0_0_0 x

end Cert.KernelIdeal.Val
-- ==== Proof.Col.lean ====
module

public import proofs.«01_k».proof.Proof.Att
public import proofs.«01_k».proof.Proof.Pay

@[expose] public section

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic

/-! ## One column of the online softmax -/

section Column
variable (qt : FVec Ideal S64x1024 .fp8e4m3) (qc : FVec Ideal S1x1024 .f32) (kb : ℕ → Vec Ideal S1x128x64 .fp8e4m3) (vb : ℕ → Vec Ideal S1x64x128 .fp8e4m3) (ks vs : ℕ → Ideal .f32)
variable (c : Fin 1024) (qr : Fin 64 → ℝ) (qcr : ℝ) (kr : ℕ → Fin 128 → Fin 64 → ℝ) (vr : ℕ → Fin 64 → Fin 128 → ℝ) (ksr vsr : ℕ → ℝ)

/-- The score in base 2 of key `r` of block `n`. -/
def s2 (n : ℕ) (r : Fin 128) : ℝ := (∑ x : Fin 64, kr n r x * qr x) * (qcr * ksr n)

variable (hq : ∀ d, qt (ix2 d c) = ((qr d : ℝ) : EReal)) (hqc : qc (ix2 (0 : Fin 1) c) = ((qcr : ℝ) : EReal))
  (hk : ∀ n r d, kb n (ix3 (0 : Fin 1) r d) = ((kr n r d : ℝ) : EReal)) (hv : ∀ n d r, vb n (ix3 (0 : Fin 1) d r) = ((vr n d r : ℝ) : EReal))
  (hks : ∀ n, ks n = ((ksr n : ℝ) : EReal)) (hvs : ∀ n, vs n = ((vsr n : ℝ) : EReal)) (hpos : ∀ n, 0 < vsr n)

include hq hqc hk hks in
theorem s2_eq (n : ℕ) (r : Fin 128) : (∑ x : Fin 64, (kb n (ix3 (0 : Fin 1) r x) : EReal) * (qt (ix2 x c) : EReal)) * ((qc (ix2 (0 : Fin 1) c) : EReal) * (ks n : EReal)) = ((s2 qr qcr kr ksr n r : ℝ) : EReal) := by
  have h : ∀ x : Fin 64, (kb n (ix3 (0 : Fin 1) r x) : EReal) * (qt (ix2 x c) : EReal) = ((kr n r x * qr x : ℝ) : EReal) := fun x => by
    rw [EReal.coe_mul]
    exact congrArg₂ (· * ·) (hk n r x) (hq x)
  rw [Finset.sum_congr rfl fun x _ => h x, coe_sum]
  unfold s2
  rw [EReal.coe_mul, EReal.coe_mul]
  exact congrArg (((∑ x : Fin 64, kr n r x * qr x : ℝ) : EReal) * ·) (congrArg₂ (· * ·) hqc (hks n))

include hq hqc hk hv hks hvs hpos in
/-- The state after `n` unmasked blocks. -/
theorem iterU_inv (n : ℕ) : Inv ((iterU qt qc kb vb ks vs n).m (ix2 (0 : Fin 1) c)) ((iterU qt qc kb vb ks vs n).l (ix2 (0 : Fin 1) c)) (iterU qt qc kb vb ks vs n).v
    (fun d => (iterU qt qc kb vb ks vs n).o (ix2 d c)) (∑ j ∈ Finset.range n, ∑ r : Fin 128, (2 : ℝ) ^ s2 qr qcr kr ksr j r)
    (fun d => ∑ j ∈ Finset.range n, ∑ r : Fin 128, (2 : ℝ) ^ s2 qr qcr kr ksr j r * (vr j d r * vsr j)) := by
  induction n with
  | zero =>
    have h1 : (iterU qt qc kb vb ks vs 0).m (ix2 (0 : Fin 1) c) = ⊥ := pay84_at c
    have h2 : (iterU qt qc kb vb ks vs 0).l (ix2 (0 : Fin 1) c) = 0 := pay85_at c
    have h3 : (iterU qt qc kb vb ks vs 0).v = ((1 : ℝ) : EReal) := c_one
    have h4 : (fun d => (iterU qt qc kb vb ks vs 0).o (ix2 d c)) = fun _ => 0 := funext fun d => pay83_at c d
    rw [h1, h2, h3, h4]
    simpa using inv_ini
  | succ n ih =>
    have h := inv_step ih (fun r => k1_pay3 (F := Ideal) qt qc (kb n) (ks n) (ix2 r c)) (fun _ => True) (s2 qr qcr kr ksr n)
      (fun r => by rw [if_pos trivial, pay3_at]; exact s2_eq qt qc kb ks c qr qcr kr ksr hq hqc hk hks n r) ⟨0, trivial⟩ (vr n) (vsr n) (hpos n)
      (m' := (iterU qt qc kb vb ks vs (n + 1)).m (ix2 (0 : Fin 1) c)) (pay4_at ..)
      (l' := (iterU qt qc kb vb ks vs (n + 1)).l (ix2 (0 : Fin 1) c)) (o' := fun d => (iterU qt qc kb vb ks vs (n + 1)).o (ix2 d c))
      ?_ ?_
    · rw [Finset.sum_range_succ]
      simp only [if_true] at h
      have e : (fun d => ∑ j ∈ Finset.range (n + 1), ∑ r : Fin 128, (2 : ℝ) ^ s2 qr qcr kr ksr j r * (vr j d r * vsr j)) = fun d => (∑ j ∈ Finset.range n, ∑ r : Fin 128, (2 : ℝ) ^ s2 qr qcr kr ksr j r * (vr j d r * vsr j)) + ∑ r : Fin 128, (2 : ℝ) ^ s2 qr qcr kr ksr n r * (vr n d r * vsr n) :=
        funext fun d => Finset.sum_range_succ _ _
      rw [e]
      have e2 : (iterU qt qc kb vb ks vs (n + 1)).v = ((vsr n : ℝ) : EReal) := hvs n
      rw [e2]
      exact h
    · refine (pay7_at ..).trans ?_
      rw [pay5_at]
      refine congrArg₂ (· + ·) rfl (Finset.sum_congr rfl fun r _ => pay6_at ..)
    · intro d
      refine (pay86_at ..).trans ?_
      rw [pay9_at, pay5_at, pay8_at]
      refine congrArg₂ (· + ·) (congrArg (_ * ·) (congrArg (_ * ·) (congrArg _ (hvs n)))) (Finset.sum_congr rfl fun r _ => ?_)
      rw [pay6_at]
      exact congrArg₂ (· * ·) (hv n d r) rfl

end Column

/-- The masked block after `n` unmasked ones. -/
theorem last_inv (qt : FVec Ideal S64x1024 .fp8e4m3) (qc : FVec Ideal S1x1024 .f32) (kb : ℕ → Vec Ideal S1x128x64 .fp8e4m3) (vb : ℕ → Vec Ideal S1x64x128 .fp8e4m3) (ks vs : ℕ → Ideal .f32)
    (c : Fin 1024) (qr : Fin 64 → ℝ) (qcr : ℝ) (kr : ℕ → Fin 128 → Fin 64 → ℝ) (vr : ℕ → Fin 64 → Fin 128 → ℝ) (ksr vsr : ℕ → ℝ)
    (hq : ∀ d, qt (ix2 d c) = ((qr d : ℝ) : EReal)) (hqc : qc (ix2 (0 : Fin 1) c) = ((qcr : ℝ) : EReal))
    (hk : ∀ n r d, kb n (ix3 (0 : Fin 1) r d) = ((kr n r d : ℝ) : EReal)) (hv : ∀ n d r, vb n (ix3 (0 : Fin 1) d r) = ((vr n d r : ℝ) : EReal))
    (hks : ∀ n, ks n = ((ksr n : ℝ) : EReal)) (hvs : ∀ n, vs n = ((vsr n : ℝ) : EReal)) (hpos : ∀ n, 0 < vsr n) (n : ℕ) (S : OSt Ideal) (hS : S = iterU qt qc kb vb ks vs n) :
    Inv (k1_pay89 (F := Ideal) qt qc S.m (kb n) (ks n) (ix2 (0 : Fin 1) c)) (k1_pay92 (F := Ideal) qt qc S.m S.l (kb n) (ks n) (ix2 (0 : Fin 1) c)) ((vsr n : ℝ) : EReal)
      (fun d => k1_pay1 (F := Ideal) S.v (k1_pay90 qt qc S.m (kb n) (ks n)) (k1_pay93 qt qc S.m (kb n) (ks n)) (vb n) (vs n) S.o (ix2 d c))
      ((∑ j ∈ Finset.range n, ∑ r : Fin 128, (2 : ℝ) ^ s2 qr qcr kr ksr j r) + ∑ r : Fin 128, if r.val ≤ c.val % 128 then (2 : ℝ) ^ s2 qr qcr kr ksr n r else 0)
      (fun d => (∑ j ∈ Finset.range n, ∑ r : Fin 128, (2 : ℝ) ^ s2 qr qcr kr ksr j r * (vr j d r * vsr j)) + ∑ r : Fin 128, (if r.val ≤ c.val % 128 then (2 : ℝ) ^ s2 qr qcr kr ksr n r else 0) * (vr n d r * vsr n)) := by
  have ih := iterU_inv qt qc kb vb ks vs c qr qcr kr vr ksr vsr hq hqc hk hv hks hvs hpos n
  rw [← hS] at ih
  refine inv_step ih (fun r => k1_pay88 (F := Ideal) qt qc (kb n) (ks n) (ix2 r c)) (fun r => r.val ≤ c.val % 128) (s2 qr qcr kr ksr n)
    (fun r => ?_) ⟨0, Nat.zero_le _⟩ (vr n) (vsr n) (hpos n) (pay89_at ..) ?_ ?_
  · rw [pay88_at]
    by_cases h : r.val ≤ c.val % 128
    · rw [if_pos h, if_pos h]
      exact s2_eq qt qc kb ks c qr qcr kr ksr hq hqc hk hks n r
    · rw [if_neg h, if_neg h]
  · refine (pay92_at ..).trans ?_
    rw [pay90_at]
    exact congrArg₂ (· + ·) rfl (Finset.sum_congr rfl fun r _ => pay91_at ..)
  · intro d
    refine (pay1_at ..).trans ?_
    rw [pay90_at]
    refine congrArg₂ (· + ·) (congrArg (_ * ·) (congrArg (_ * ·) (congrArg _ (hvs n)))) (Finset.sum_congr rfl fun r _ => ?_)
    rw [pay93_at, pay91_at]
    exact congrArg₂ (· * ·) (hv n d r) rfl

/-! ## The sums over blocks as sums over the keys -/

/-- Sums over the blocks before and the part of the last block up to `q`. -/
theorem sum_blocks (f : ℕ → ℝ) (n q : ℕ) (hq : q < 128) :
    (∑ j ∈ Finset.range n, ∑ r : Fin 128, f (128 * j + r.val)) + (∑ r : Fin 128, if r.val ≤ q then f (128 * n + r.val) else 0) = ∑ k ∈ Finset.range (128 * n + (q + 1)), f k := by
  have h1 : ∀ n, (∑ j ∈ Finset.range n, ∑ r : Fin 128, f (128 * j + r.val)) = ∑ k ∈ Finset.range (128 * n), f k := fun n => by
    induction n with
    | zero => simp
    | succ n ih => rw [Finset.sum_range_succ, ih, Nat.mul_succ, Finset.sum_range_add, Finset.sum_range fun i => f (128 * n + i)]
  rw [h1, Finset.sum_range_add]
  congr 1
  rw [← Finset.sum_range fun r => if r ≤ q then f (128 * n + r) else 0, ← Finset.sum_filter]
  refine Finset.sum_congr (Finset.ext fun x => ?_) fun _ _ => rfl
  simp only [Finset.mem_filter, Finset.mem_range]
  omega

/-- Token number `k`. -/
def tokN (k : ℕ) : Fin 32768 := ⟨k % 32768, Nat.mod_lt _ (by decide)⟩

theorem sum_upto (f : Fin 32768 → ℝ) (t : Fin 32768) : (∑ k ∈ Finset.range (t.val + 1), f (tokN k)) = ∑ k ∈ Finset.univ.filter (fun k : Fin 32768 => k.val ≤ t.val), f k := by
  refine Finset.sum_bij (fun k _ => tokN k) ?_ ?_ ?_ fun _ _ => rfl
  · intro k hk
    have hk := Finset.mem_range.1 hk
    have ht := t.isLt
    refine Finset.mem_filter.2 ⟨Finset.mem_univ _, ?_⟩
    show k % 32768 ≤ t.val
    omega
  · intro a ha b hb h
    have ha := Finset.mem_range.1 ha
    have hb := Finset.mem_range.1 hb
    have ht := t.isLt
    have : a % 32768 = b % 32768 := congrArg Fin.val h
    omega
  · intro k hk
    have hk := (Finset.mem_filter.1 hk).2
    have := k.isLt
    exact ⟨k.val, Finset.mem_range.2 (by omega), Fin.ext (Nat.mod_eq_of_lt k.isLt)⟩

end Cert.KernelIdeal.Val
-- ==== Proof.AttVal.lean ====
module

public import proofs.«01_k».proof.Proof.Col

@[expose] public section

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic

/-! ## The layout of the output block -/

/-- Eight heads stacked. -/
def cat8 (w0 w1 w2 w3 w4 w5 w6 w7 : FVec Ideal S64x128 .f32) : FVec Ideal S512x128 .f32 :=
  concatenate S512x128 0 [⟨S64x128, w0⟩, ⟨S64x128, w1⟩, ⟨S64x128, w2⟩, ⟨S64x128, w3⟩, ⟨S64x128, w4⟩, ⟨S64x128, w5⟩, ⟨S64x128, w6⟩, ⟨S64x128, w7⟩] concatenates_S64x128_S64x128_S64x128_S64x128_S64x128_S64x128_S64x128_S64x128_S512x128_d0

variable (w0 w1 w2 w3 w4 w5 w6 w7 : FVec Ideal S64x128 .f32) (v : FVec Ideal S64x1024 .f32) (d : Fin 64) (q : Fin 128)

theorem cat8_at0 : cat8 w0 w1 w2 w3 w4 w5 w6 w7 (ix2 (feat 0 d) q) = w0 (ix2 d q) := by
  have hv : (feat 0 d).val = 0 + d.val := rfl
  have hd := d.isLt
  pointwise [cat8]
  rw [dif_pos (by omega)]
  exact congrArg (fun y => w0 (ix2 y q)) (Fin.ext (by show (feat 0 d).val = d.val; omega))
theorem cat8_at1 : cat8 w0 w1 w2 w3 w4 w5 w6 w7 (ix2 (feat 1 d) q) = w1 (ix2 d q) := by
  have hv : (feat 1 d).val = 64 + d.val := rfl
  have hd := d.isLt
  pointwise [cat8]
  rw [dif_neg (by omega)]
  rw [dif_pos (by omega)]
  exact congrArg (fun y => w1 (ix2 y q)) (Fin.ext (by show (feat 1 d).val - 64 = d.val; omega))
theorem cat8_at2 : cat8 w0 w1 w2 w3 w4 w5 w6 w7 (ix2 (feat 2 d) q) = w2 (ix2 d q) := by
  have hv : (feat 2 d).val = 128 + d.val := rfl
  have hd := d.isLt
  pointwise [cat8]
  rw [dif_neg (by omega)]
  rw [dif_neg (by omega)]
  rw [dif_pos (by omega)]
  exact congrArg (fun y => w2 (ix2 y q)) (Fin.ext (by show (feat 2 d).val - 64 - 64 = d.val; omega))
theorem cat8_at3 : cat8 w0 w1 w2 w3 w4 w5 w6 w7 (ix2 (feat 3 d) q) = w3 (ix2 d q) := by
  have hv : (feat 3 d).val = 192 + d.val := rfl
  have hd := d.isLt
  pointwise [cat8]
  rw [dif_neg (by omega)]
  rw [dif_neg (by omega)]
  rw [dif_neg (by omega)]
  rw [dif_pos (by omega)]
  exact congrArg (fun y => w3 (ix2 y q)) (Fin.ext (by show (feat 3 d).val - 64 - 64 - 64 = d.val; omega))
theorem cat8_at4 : cat8 w0 w1 w2 w3 w4 w5 w6 w7 (ix2 (feat 4 d) q) = w4 (ix2 d q) := by
  have hv : (feat 4 d).val = 256 + d.val := rfl
  have hd := d.isLt
  pointwise [cat8]
  rw [dif_neg (by omega)]
  rw [dif_neg (by omega)]
  rw [dif_neg (by omega)]
  rw [dif_neg (by omega)]
  rw [dif_pos (by omega)]
  exact congrArg (fun y => w4 (ix2 y q)) (Fin.ext (by show (feat 4 d).val - 64 - 64 - 64 - 64 = d.val; omega))
theorem cat8_at5 : cat8 w0 w1 w2 w3 w4 w5 w6 w7 (ix2 (feat 5 d) q) = w5 (ix2 d q) := by
  have hv : (feat 5 d).val = 320 + d.val := rfl
  have hd := d.isLt
  pointwise [cat8]
  rw [dif_neg (by omega)]
  rw [dif_neg (by omega)]
  rw [dif_neg (by omega)]
  rw [dif_neg (by omega)]
  rw [dif_neg (by omega)]
  rw [dif_pos (by omega)]
  exact congrArg (fun y => w5 (ix2 y q)) (Fin.ext (by show (feat 5 d).val - 64 - 64 - 64 - 64 - 64 = d.val; omega))
theorem cat8_at6 : cat8 w0 w1 w2 w3 w4 w5 w6 w7 (ix2 (feat 6 d) q) = w6 (ix2 d q) := by
  have hv : (feat 6 d).val = 384 + d.val := rfl
  have hd := d.isLt
  pointwise [cat8]
  rw [dif_neg (by omega)]
  rw [dif_neg (by omega)]
  rw [dif_neg (by omega)]
  rw [dif_neg (by omega)]
  rw [dif_neg (by omega)]
  rw [dif_neg (by omega)]
  rw [dif_pos (by omega)]
  exact congrArg (fun y => w6 (ix2 y q)) (Fin.ext (by show (feat 6 d).val - 64 - 64 - 64 - 64 - 64 - 64 = d.val; omega))
theorem cat8_at7 : cat8 w0 w1 w2 w3 w4 w5 w6 w7 (ix2 (feat 7 d) q) = w7 (ix2 d q) := by
  have hv : (feat 7 d).val = 448 + d.val := rfl
  have hd := d.isLt
  pointwise [cat8]
  rw [dif_neg (by omega)]
  rw [dif_neg (by omega)]
  rw [dif_neg (by omega)]
  rw [dif_neg (by omega)]
  rw [dif_neg (by omega)]
  rw [dif_neg (by omega)]
  rw [dif_neg (by omega)]
  exact congrArg (fun y => w7 (ix2 y q)) (Fin.ext (by show (feat 7 d).val - 64 - 64 - 64 - 64 - 64 - 64 - 64 = d.val; omega))

/-- The columns of head `h`. -/
theorem slice_at (h : Fin 8) (off : Fin 2 → ℕ) (hs : S64x1024.Slices off S64x128) (e0 : off 0 = 0) (e1 : off 1 = 128 * h.val) : extractStridedSlice S64x128 off v hs (ix2 d q) = v (ix2 d (colOf h q)) := by
  refine extractStridedSlice_apply off v hs _ _ fun a => ?_
  match a with
  | ⟨0, _⟩ =>
    show d.val = off 0 + d.val
    omega
  | ⟨1, _⟩ =>
    show 128 * h.val + q.val = off 1 + q.val
    omega

/-- The heads' columns laid side by side as features. -/
def headsV (v : FVec Ideal S64x1024 .f32) : FVec Ideal S512x128 .f32 :=
  cat8 (extractStridedSlice S64x128 ![0, 0] v slices_S64x1024_o0_0_S64x128) (extractStridedSlice S64x128 ![0, 128] v slices_S64x1024_o0_128_S64x128) (extractStridedSlice S64x128 ![0, 256] v slices_S64x1024_o0_256_S64x128) (extractStridedSlice S64x128 ![0, 384] v slices_S64x1024_o0_384_S64x128) (extractStridedSlice S64x128 ![0, 512] v slices_S64x1024_o0_512_S64x128) (extractStridedSlice S64x128 ![0, 640] v slices_S64x1024_o0_640_S64x128) (extractStridedSlice S64x128 ![0, 768] v slices_S64x1024_o0_768_S64x128) (extractStridedSlice S64x128 ![0, 896] v slices_S64x1024_o0_896_S64x128)

/-- Feature `d` of head `h` is row `d` of the head's columns. -/
theorem headsV_at (h : Fin 8) : headsV v (ix2 (feat h d) q) = v (ix2 d (colOf h q)) := by
  match h with
  | ⟨0, _⟩ => exact (cat8_at0 _ _ _ _ _ _ _ _ d q).trans (slice_at v d q 0 _ _ rfl rfl)
  | ⟨1, _⟩ => exact (cat8_at1 _ _ _ _ _ _ _ _ d q).trans (slice_at v d q 1 _ _ rfl rfl)
  | ⟨2, _⟩ => exact (cat8_at2 _ _ _ _ _ _ _ _ d q).trans (slice_at v d q 2 _ _ rfl rfl)
  | ⟨3, _⟩ => exact (cat8_at3 _ _ _ _ _ _ _ _ d q).trans (slice_at v d q 3 _ _ rfl rfl)
  | ⟨4, _⟩ => exact (cat8_at4 _ _ _ _ _ _ _ _ d q).trans (slice_at v d q 4 _ _ rfl rfl)
  | ⟨5, _⟩ => exact (cat8_at5 _ _ _ _ _ _ _ _ d q).trans (slice_at v d q 5 _ _ rfl rfl)
  | ⟨6, _⟩ => exact (cat8_at6 _ _ _ _ _ _ _ _ d q).trans (slice_at v d q 6 _ _ rfl rfl)
  | ⟨7, _⟩ => exact (cat8_at7 _ _ _ _ _ _ _ _ d q).trans (slice_at v d q 7 _ _ rfl rfl)

variable (l : FVec Ideal S1x1024 .f32) (vs : EReal) (o : FVec Ideal S64x1024 .f32)

theorem pay2_eq : k1_pay2 (F := Ideal) l vs o = shapeCast S1x128x512 (truncf .bf16 (transpose S128x512 [1, 0] (headsV (divf (mulf o (broadcast S64x1024 vs)) (broadcastTo S64x1024 l broadcasts_S1x1024_S64x1024))) transposes_S512x128_p1_0_S128x512) bitsLt_bf16_f32) shapeCasts_S128x512_S1x128x512 := rfl

/-- The output block at an index. -/
theorem pay2_at (h : Fin 8) : k1_pay2 (F := Ideal) l vs o (ix3 (0 : Fin 1) q (feat h d)) = Ideal.div (o (ix2 d (colOf h q)) * vs) (l (ix2 (0 : Fin 1) (colOf h q))) := by
  rw [pay2_eq]
  pointwise []
  rw [headsV_at]
  pointwise []

/-! ## The values of the attention body -/

section Value
variable (a0 : S2x32768x512.Idx → EReal) (a1 a2 : S2x32768x64.Idx → EReal)
variable (x0 x1 : Vec Ideal S2x256 .f32) (x2 : Vec Ideal S1x128x512 .bf16) (x3 : Vec Ideal S1x32768x64 .fp8e4m3) (x4 : Vec Ideal S1x64x32768 .fp8e4m3) (b : Fin 2) (n : Fin 256)
variable (h0 : ∀ (b : Fin 2) (n : Fin 256), x0 (ix2 b n) = kScl a1 b n) (h1 : ∀ (b : Fin 2) (n : Fin 256), x1 (ix2 b n) = kScl a2 b n)
  (h2 : ∀ (q : Fin 128) (e : Fin 512), x2 (ix3 (0 : Fin 1) q e) = a0 (ix3 b (tok n q) e))
  (h3 : ∀ (t : Fin 32768) (d : Fin 64), x3 (ix3 (0 : Fin 1) t d) = kCod a1 b t d)
  (h4 : ∀ (t : Fin 32768) (d : Fin 64), x4 (ix3 (0 : Fin 1) d t) = kCod a2 b t d)

include h2 in
theorem xT_tile (h : Fin 8) : (fun (d : Fin 64) (r : Fin 128) => (xT (F := Ideal) x2 h (ix2 d r) : EReal)) = qTile a0 b n h := by
  funext d r
  rw [xT_at, h2]
  rfl

theorem blk_tok (q : Fin 128) : blk (tok n q) = n := Fin.ext (by show (128 * n.val + q.val) / 128 = n.val; omega)

include h2 in
theorem tCod_q (h : Fin 8) (d : Fin 64) (q : Fin 128) : tCod (F := Ideal) (xT x2 h) (ix2 d q) = qCod a0 b (tok n q) h d := by
  rw [tCod_at, xT_tile a0 x2 b n h2, xT_at, h2]
  unfold qCod
  rw [blk_tok n]

include h2 in
theorem tScl_q (h : Fin 8) : tScl (F := Ideal) (xT x2 h) (ix2 (0 : Fin 1) (0 : Fin 1)) = qScl a0 b n h := by
  rw [tScl_at, xT_tile a0 x2 b n h2]
  rfl

include h2 in
/-- The block of query codes. -/
theorem q6_val (h : Fin 8) (d : Fin 64) (q : Fin 128) : q6 (F := Ideal) x2 (ix3 (0 : Fin 1) (feat h d) q) = qCod a0 b (tok n q) h d := by
  rw [← tCod_q a0 x2 b n h2]
  unfold q6
  have e1 : (feat h d).val / 64 = h.val := by show (64 * h.val + d.val) / 64 = h.val; omega
  have e2 : (feat h d).val % 64 = d.val := by show (64 * h.val + d.val) % 64 = d.val; omega
  have e3 : ∀ p, (⟨((ix3 (0 : Fin 1) (feat h d) q : S1x512x128.Idx) 1).val / 64, p⟩ : Fin 8) = h := fun p => Fin.ext e1
  have e4 : ∀ p, (⟨((ix3 (0 : Fin 1) (feat h d) q : S1x512x128.Idx) 1).val % 64, p⟩ : Fin 64) = d := fun p => Fin.ext e2
  rw [e3, e4]
  rfl

include h2 in
/-- The block of query scales. -/
theorem q7_val (h : Fin 8) (q : Fin 128) : q7 (F := Ideal) x2 (ix4 (0 : Fin 1) (0 : Fin 1) h q) = qScl a0 b n h :=
  tScl_q a0 x2 b n h2 h

include h0 in
theorem scN_val (n : ℕ) : scN (F := Ideal) x0 b n = ((rkS a1 b (⟨n % 256, Nat.mod_lt _ (by decide)⟩ : Fin 256) : ℝ) : EReal) := h0 _ _

include h3 in
theorem kbN_val (n : ℕ) (r : Fin 128) (d : Fin 64) : kbN (F := Ideal) x3 n (ix3 (0 : Fin 1) r d) = ((rkC a1 b (tokN (128 * n + r.val)) d : ℝ) : EReal) :=
  (h3 _ _).trans (kCod_coe ..)

include h4 in
theorem vbN_val (n : ℕ) (d : Fin 64) (r : Fin 128) : vbN (F := Ideal) x4 n (ix3 (0 : Fin 1) d r) = ((rkC a2 b (tokN (128 * n + r.val)) d : ℝ) : EReal) :=
  (h4 _ _).trans (kCod_coe ..)

theorem two_rpow_eq (x y : ℝ) (h : Real.log 2 * x = y) : (2 : ℝ) ^ x = Real.exp y := by
  rw [Real.rpow_def_of_pos (by norm_num), h]

theorem blk_tokN (n : ℕ) (r : Fin 128) : blk (tokN (128 * n + r.val)) = (⟨n % 256, Nat.mod_lt _ (by decide)⟩ : Fin 256) :=
  Fin.ext (by show (128 * n + r.val) % 32768 / 128 = n % 256; omega)

/-- The weight in base 2 is the exponential of the score. -/
theorem weight_eq (t : Fin 32768) (h : Fin 8) (n : ℕ) (r : Fin 128) :
    (2 : ℝ) ^ s2 (fun d => rqC a0 b t h d) (rqS a0 b (blk t) h * (8⁻¹ * (Real.log 2)⁻¹)) (fun n r d => rkC a1 b (tokN (128 * n + r.val)) d) (fun n => rkS a1 b (⟨n % 256, Nat.mod_lt _ (by decide)⟩ : Fin 256)) n r
      = Real.exp (score a0 a1 b t h (tokN (128 * n + r.val))) := by
  apply two_rpow_eq
  unfold s2 score
  rw [blk_tokN]
  have hl : Real.log 2 ≠ 0 := (Real.log_pos (by norm_num)).ne'
  have e : ∑ x : Fin 64, rkC a1 b (tokN (128 * n + r.val)) x * rqC a0 b t h x = ∑ x : Fin 64, rqC a0 b t h x * rkC a1 b (tokN (128 * n + r.val)) x := Finset.sum_congr rfl fun x _ => mul_comm _ _
  rw [e]
  field_simp

/-- The state before the masked block. -/
def stB : OSt Ideal := iterU (qtV x2) (qcV x2) (kbN x3) (vbN x4) (scN x0 b) (scN x1 b) n.val

include h0 h1 h2 h3 h4 in
/-- The output block is the attention output. -/
theorem y_val (h : Fin 8) (d : Fin 64) (q : Fin 128) :
    k1_pay2 (F := Ideal) (k1_pay92 (qtV x2) (qcV x2) (stB x0 x1 x2 x3 x4 b n).m (stB x0 x1 x2 x3 x4 b n).l (kbN x3 n.val) (scN x0 b n.val)) (scN x1 b n.val)
      (k1_pay1 (stB x0 x1 x2 x3 x4 b n).v (k1_pay90 (qtV x2) (qcV x2) (stB x0 x1 x2 x3 x4 b n).m (kbN x3 n.val) (scN x0 b n.val)) (k1_pay93 (qtV x2) (qcV x2) (stB x0 x1 x2 x3 x4 b n).m (kbN x3 n.val) (scN x0 b n.val)) (vbN x4 n.val) (scN x1 b n.val) (stB x0 x1 x2 x3 x4 b n).o) (ix3 (0 : Fin 1) q (feat h d)) = ((yR a0 a1 a2 b (tok n q) h d : ℝ) : EReal) := by
  have hI := last_inv (qtV x2) (qcV x2) (kbN x3) (vbN x4) (scN x0 b) (scN x1 b) (colOf h q)
    (fun d => rqC a0 b (tok n q) h d) (rqS a0 b (blk (tok n q)) h * (8⁻¹ * (Real.log 2)⁻¹)) (fun n r d => rkC a1 b (tokN (128 * n + r.val)) d) (fun n d r => rkC a2 b (tokN (128 * n + r.val)) d)
    (fun n => rkS a1 b (⟨n % 256, Nat.mod_lt _ (by decide)⟩ : Fin 256)) (fun n => rkS a2 b (⟨n % 256, Nat.mod_lt _ (by decide)⟩ : Fin 256))
    (fun d => by rw [qtV_at, tCod_q a0 x2 b n h2]; exact qCod_coe ..)
    (by
      have hs := tScl_q a0 x2 b n h2 h
      rw [tScl_at] at hs
      rw [qcV_at, tCol_at, hs, blk_tok n]
      exact (EReal.coe_mul _ _).symm)
    (kbN_val a1 x3 b h3) (vbN_val a2 x4 b h4) (scN_val a1 x0 b h0) (scN_val a2 x1 b h1) (fun n => rkS_pos ..) n.val (stB x0 x1 x2 x3 x4 b n) rfl
  have hw := weight_eq a0 a1 b (tok n q) h
  simp only [hw] at hI
  have hc : (colOf h q).val % 128 = q.val := by show (128 * h.val + q.val) % 128 = q.val; omega
  rw [hc] at hI
  have ht : 128 * n.val + (q.val + 1) = (tok n q).val + 1 := rfl
  have hA : (∑ j ∈ Finset.range n.val, ∑ r : Fin 128, Real.exp (score a0 a1 b (tok n q) h (tokN (128 * j + r.val)))) + (∑ r : Fin 128, if r.val ≤ q.val then Real.exp (score a0 a1 b (tok n q) h (tokN (128 * n.val + r.val))) else 0)
      = ∑ k ∈ Finset.univ.filter (fun k : Fin 32768 => k.val ≤ (tok n q).val), Real.exp (score a0 a1 b (tok n q) h k) := by
    rw [sum_blocks (fun k => Real.exp (score a0 a1 b (tok n q) h (tokN k))) n.val q.val q.isLt, ht]
    exact sum_upto (fun k => Real.exp (score a0 a1 b (tok n q) h k)) _
  have hB : (∑ j ∈ Finset.range n.val, ∑ r : Fin 128, Real.exp (score a0 a1 b (tok n q) h (tokN (128 * j + r.val))) * (rkC a2 b (tokN (128 * j + r.val)) d * rkS a2 b (⟨j % 256, Nat.mod_lt _ (by decide)⟩ : Fin 256)))
        + (∑ r : Fin 128, (if r.val ≤ q.val then Real.exp (score a0 a1 b (tok n q) h (tokN (128 * n.val + r.val))) else 0) * (rkC a2 b (tokN (128 * n.val + r.val)) d * rkS a2 b (⟨n.val % 256, Nat.mod_lt _ (by decide)⟩ : Fin 256)))
      = ∑ k ∈ Finset.univ.filter (fun k : Fin 32768 => k.val ≤ (tok n q).val), Real.exp (score a0 a1 b (tok n q) h k) * (rkC a2 b k d * rkS a2 b (blk k)) := by
    rw [← sum_upto (fun k => Real.exp (score a0 a1 b (tok n q) h k) * (rkC a2 b k d * rkS a2 b (blk k))), ← ht,
      ← sum_blocks (fun k => Real.exp (score a0 a1 b (tok n q) h (tokN k)) * (rkC a2 b (tokN k) d * rkS a2 b (blk (tokN k)))) n.val q.val q.isLt]
    simp only [blk_tokN, ite_mul, zero_mul]
  have hpos : 0 < ∑ k ∈ Finset.univ.filter (fun k : Fin 32768 => k.val ≤ (tok n q).val), Real.exp (score a0 a1 b (tok n q) h k) :=
    Finset.sum_pos (fun k _ => Real.exp_pos _) ⟨tok n q, Finset.mem_filter.2 ⟨Finset.mem_univ _, le_rfl⟩⟩
  rw [hA] at hI
  have hO := inv_out hI hpos d
  rw [hB] at hO
  rw [pay2_at]
  refine Eq.trans ?_ hO
  refine congrArg₂ Ideal.div (congrArg₂ (· * ·) rfl ?_) rfl
  exact scN_val a2 x1 b h1 n.val

end Value

end Cert.KernelIdeal.Val
-- ==== Proof.Out.lean ====
module

public import proofs.«01_k».proof.Proof.Spec

@[expose] public section

set_option maxRecDepth 16384

noncomputable section

namespace Cert.Spec

open Idealize.ShloMosaic

/-! ## The seven results as functions of the three arguments -/

variable (a0 : (⟨3, ![2, 32768, 512]⟩ : Shape).Idx → EReal) (a1 a2 : (⟨3, ![2, 32768, 64]⟩ : Shape).Idx → EReal)

/-- The head of a feature. -/
def hd (e : Fin 512) : Fin 8 := ⟨e.val / 64, by omega⟩
/-- The place of a feature in its head. -/
def fd (e : Fin 512) : Fin 64 := ⟨e.val % 64, Nat.mod_lt _ (by decide)⟩
theorem feat_hd (e : Fin 512) : feat (hd e) (fd e) = e := Fin.ext (by show 64 * (e.val / 64) + e.val % 64 = e.val; omega)

/-- Result 1: the attention output. -/
def resY : (⟨3, ![2, 32768, 512]⟩ : Shape).Idx → EReal :=
  fun i => ((yR a0 a1 a2 (i 0 : Fin 2) (i 1 : Fin 32768) (hd (i 2 : Fin 512)) (fd (i 2 : Fin 512)) : ℝ) : EReal)
/-- Result 2: the query codes. -/
def resQC : (⟨4, ![2, 32768, 8, 64]⟩ : Shape).Idx → EReal := fun i => qCod a0 (i 0 : Fin 2) (i 1 : Fin 32768) (i 2 : Fin 8) (i 3 : Fin 64)
/-- Result 3: the query scales. -/
def resQS : (⟨3, ![2, 256, 8]⟩ : Shape).Idx → EReal := fun i => qScl a0 (i 0 : Fin 2) (i 1 : Fin 256) (i 2 : Fin 8)
/-- Results 4 and 6: the key (or value) codes. -/
def resKC : (⟨4, ![2, 32768, 1, 64]⟩ : Shape).Idx → EReal := fun i => kCod a1 (i 0 : Fin 2) (i 1 : Fin 32768) (i 3 : Fin 64)
/-- Results 5 and 7: the key (or value) scales. -/
def resKS : (⟨3, ![2, 256, 1]⟩ : Shape).Idx → EReal := fun i => kScl a1 (i 0 : Fin 2) (i 1 : Fin 256)

end Cert.Spec
-- ==== Proof.KArr.lean ====
module

public import proofs.«01_k».proof.Proof.KvBlock
public import proofs.«01_k».proof.Proof.AttVal
public import proofs.«01_k».proof.Proof.Out
public import Idealize.ShloMosaic.Lib.Pipeline.ValueKit.Geometry
public import Idealize.ShloMosaic.Lib.StableHlo.Run
public import Idealize.ShloMosaic.Lib.Claim

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

/-! ## The arrays as functions of the argument arrays -/

/-- The key (or value) codes, tokens by features. -/
def GK (a1 : S2x32768x64.Idx → EReal) : S2x32768x64.Idx → EReal := fun i => kCod a1 (i 0 : Fin 2) (i 1 : Fin 32768) (i 2 : Fin 64)
/-- The key (or value) codes, features by tokens. -/
def GKT (a1 : S2x32768x64.Idx → EReal) : S2x64x32768.Idx → EReal := fun i => kCod a1 (i 0 : Fin 2) (i 2 : Fin 32768) (i 1 : Fin 64)
/-- The key (or value) scales, along rows of 128. -/
def GS (a1 : S2x32768x64.Idx → EReal) : S2x256x128.Idx → EReal := fun i => kScl a1 (i 0 : Fin 2) (i 1 : Fin 256)
/-- The query codes, features by tokens. -/
def GQ (a0 : S2x32768x512.Idx → EReal) : S2x512x32768.Idx → EReal := fun i => qCod a0 (i 0 : Fin 2) (i 2 : Fin 32768) (hd (i 1 : Fin 512)) (fd (i 1 : Fin 512))
/-- The query scales, along rows of 128. -/
def GQS (a0 : S2x32768x512.Idx → EReal) : S2x256x8x128.Idx → EReal := fun i => qScl a0 (i 0 : Fin 2) (i 1 : Fin 256) (i 2 : Fin 8)

/-! ## The index maps, decided over the grid -/

/-- The batch of a point of the first call. -/
def gb0 (t : Fin cfg0.N) : Fin 2 := grid0.coords t 0
/-- The block of sixteen tiles of a point of the first call. -/
def gm0 (t : Fin cfg0.N) : Fin 16 := grid0.coords t 1
/-- The batch of a point of the second call. -/
def gb1 (t : Fin cfg1.N) : Fin 2 := grid1.coords t 0
/-- The query block of a point of the second call. -/
def gn1 (t : Fin cfg1.N) : Fin 256 := grid1.coords t 1

theorem idx0_0 : ∀ t : Fin cfg0.N, win0_0.index t = ![(grid0.coords t 0).val, 0, (grid0.coords t 1).val] :=
  (by decide +kernel : ∀ t : Fin grid0.N, win0_0.index t = ![(grid0.coords t 0).val, 0, (grid0.coords t 1).val])
theorem idx0_1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem idx0_2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem idx0_3 : ∀ t : Fin cfg0.N, win0_3.index t = ![(grid0.coords t 0).val, 0, (grid0.coords t 1).val] :=
  (by decide +kernel : ∀ t : Fin grid0.N, win0_3.index t = ![(grid0.coords t 0).val, 0, (grid0.coords t 1).val])
theorem idx0_4 : ∀ t : Fin cfg0.N, win0_4.index t = ![(grid0.coords t 0).val, 0, (grid0.coords t 1).val] :=
  (by decide +kernel : ∀ t : Fin grid0.N, win0_4.index t = ![(grid0.coords t 0).val, 0, (grid0.coords t 1).val])
theorem idx0_5 : ∀ t : Fin cfg0.N, win0_5.index t = ![(grid0.coords t 0).val, (grid0.coords t 1).val, 0] :=
  (by decide +kernel : ∀ t : Fin grid0.N, win0_5.index t = ![(grid0.coords t 0).val, (grid0.coords t 1).val, 0])
theorem idx0_6 : ∀ t : Fin cfg0.N, win0_6.index t = ![(grid0.coords t 0).val, (grid0.coords t 1).val, 0] :=
  (by decide +kernel : ∀ t : Fin grid0.N, win0_6.index t = ![(grid0.coords t 0).val, (grid0.coords t 1).val, 0])
theorem idx1_0 : ∀ t : Fin cfg1.N, win1_0.index t = ![0, 0] :=
  (by decide +kernel : ∀ t : Fin grid1.N, win1_0.index t = ![0, 0])
theorem idx1_1 : ∀ t : Fin cfg1.N, win1_1.index t = ![0, 0] :=
  (by decide +kernel : ∀ t : Fin grid1.N, win1_1.index t = ![0, 0])
theorem idx1_2 : ∀ t : Fin cfg1.N, win1_2.index t = ![(grid1.coords t 0).val, (grid1.coords t 1).val, 0] :=
  (by decide +kernel : ∀ t : Fin grid1.N, win1_2.index t = ![(grid1.coords t 0).val, (grid1.coords t 1).val, 0])
theorem idx1_3 : ∀ t : Fin cfg1.N, win1_3.index t = ![(grid1.coords t 0).val, 0, 0] :=
  (by decide +kernel : ∀ t : Fin grid1.N, win1_3.index t = ![(grid1.coords t 0).val, 0, 0])
theorem idx1_4 : ∀ t : Fin cfg1.N, win1_4.index t = ![(grid1.coords t 0).val, 0, 0] :=
  (by decide +kernel : ∀ t : Fin grid1.N, win1_4.index t = ![(grid1.coords t 0).val, 0, 0])
theorem idx1_5 : ∀ t : Fin cfg1.N, win1_5.index t = ![(grid1.coords t 0).val, (grid1.coords t 1).val, 0] :=
  (by decide +kernel : ∀ t : Fin grid1.N, win1_5.index t = ![(grid1.coords t 0).val, (grid1.coords t 1).val, 0])
theorem idx1_6 : ∀ t : Fin cfg1.N, win1_6.index t = ![(grid1.coords t 0).val, 0, (grid1.coords t 1).val] :=
  (by decide +kernel : ∀ t : Fin grid1.N, win1_6.index t = ![(grid1.coords t 0).val, 0, (grid1.coords t 1).val])
theorem idx1_7 : ∀ t : Fin cfg1.N, win1_7.index t = ![(grid1.coords t 0).val, (grid1.coords t 1).val, 0, 0] :=
  (by decide +kernel : ∀ t : Fin grid1.N, win1_7.index t = ![(grid1.coords t 0).val, (grid1.coords t 1).val, 0, 0])

variable (m : (ℓ : Loc nD τ sig) → Buf (Elt Ideal) ℓ) (ρ : Dev nD → PrngReg) (c : Dev nD)

/-- The query argument. -/
abbrev A0 : S2x32768x512.Idx → EReal := m ((c : Thread nD τ).loc main_arg0)
/-- The key argument. -/
abbrev A1 : S2x32768x64.Idx → EReal := m ((c : Thread nD τ).loc main_arg1)
/-- The value argument. -/
abbrev A2 : S2x32768x64.Idx → EReal := m ((c : Thread nD τ).loc main_arg2)

/-! ## The first call -/

theorem V1_v0 : V1 m ρ c main_v0 = transpose S2x64x32768 [0, 2, 1] (A1 m c) transposes_S2x32768x64_S2x64x32768_0_2_1 := by
  unfold_abbrev_sides
  after_results

theorem blk0_0 (t : Fin cfg0.N) (d : Fin 64) (q : Fin 2048) : iblk0 (V1 m ρ) c 0 t (ix3 (0 : Fin 1) d q) = A1 m c (ix3 (gb0 t) (btok (gm0 t) q) d) := by
  show V1 m ρ c main_v0 ((win0_0.blk t).view.emb (ix3 (0 : Fin 1) d q)) = _
  rw [V1_v0]
  refine Idealize.ShloMosaic.transpose_apply _ _ _ _ _ ?_
  intro a
  fin_cases a
  · show (grid0.coords t 0).val = (((win0_0.blk t).view.emb (ix3 (0 : Fin 1) d q)) 0).val
    blk_simp [idx0_0]
    rfl
  · show d.val = (((win0_0.blk t).view.emb (ix3 (0 : Fin 1) d q)) 1).val
    blk_simp [idx0_0]
  · show 2048 * (grid0.coords t 1).val + q.val = (((win0_0.blk t).view.emb (ix3 (0 : Fin 1) d q)) 2).val
    blk_simp [idx0_0]
    show _ = (grid0.coords t 1).val * 2048 + q.val
    omega

theorem V1_v1 : V1 m ρ c main_v1 = transpose S2x64x32768 [0, 2, 1] (A2 m c) transposes_S2x32768x64_S2x64x32768_0_2_1 := by
  unfold_abbrev_sides
  after_results

theorem blk0_1 (t : Fin cfg0.N) (d : Fin 64) (q : Fin 2048) : iblk0 (V1 m ρ) c 1 t (ix3 (0 : Fin 1) d q) = A2 m c (ix3 (gb0 t) (btok (gm0 t) q) d) := by
  show V1 m ρ c main_v1 ((win0_1.blk t).view.emb (ix3 (0 : Fin 1) d q)) = _
  rw [V1_v1]
  refine Idealize.ShloMosaic.transpose_apply _ _ _ _ _ ?_
  intro a
  fin_cases a
  · show (grid0.coords t 0).val = (((win0_1.blk t).view.emb (ix3 (0 : Fin 1) d q)) 0).val
    blk_simp [idx0_1]
    rfl
  · show d.val = (((win0_1.blk t).view.emb (ix3 (0 : Fin 1) d q)) 1).val
    blk_simp [idx0_1]
  · show 2048 * (grid0.coords t 1).val + q.val = (((win0_1.blk t).view.emb (ix3 (0 : Fin 1) d q)) 2).val
    blk_simp [idx0_1]
    show _ = (grid0.coords t 1).val * 2048 + q.val
    omega

theorem arr0_2 : (dat0 (V1 m ρ) c).arrAt 2 cfg0.N = GK (A1 m c) := by
  refine (dat0 (V1 m ρ) c).arrAt_eq_of_covers 2 _ (by decide +kernel) fun t hf y => ?_
  blk_simp
  rw [after0_2, out0_2_eq]
  refine (kCode_val (A1 m c) _ _ _ (blk0_0 m ρ c t) (y 1 : Fin 2048) (y 2 : Fin 64)).trans ?_
  have e0 : (((win0_2.blk t).view.emb y) 0).val = (gb0 t).val := by
    blk_simp [idx0_2]
    rfl
  have e1 : (((win0_2.blk t).view.emb y) 1).val = (btok (gm0 t) (y 1 : Fin 2048)).val := by
    blk_simp [idx0_2]
    show (grid0.coords t 1).val * 2048 + (y 1).val = 2048 * (grid0.coords t 1).val + (y 1).val
    omega
  have e2 : (((win0_2.blk t).view.emb y) 2).val = (y 2).val := by
    blk_simp [idx0_2]
  unfold GK
  exact congr (congr (congrArg (kCod (A1 m c)) (Fin.ext e0.symm)) (Fin.ext e1.symm)) (Fin.ext e2.symm)

theorem arr0_3 : (dat0 (V1 m ρ) c).arrAt 3 cfg0.N = GKT (A1 m c) := by
  refine (dat0 (V1 m ρ) c).arrAt_eq_of_covers 3 _ (by decide +kernel) fun t hf y => ?_
  blk_simp
  rw [after0_3, out0_3_eq]
  refine (kCode_val (A1 m c) _ _ _ (blk0_0 m ρ c t) (y 2 : Fin 2048) (y 1 : Fin 64)).trans ?_
  have e0 : (((win0_3.blk t).view.emb y) 0).val = (gb0 t).val := by
    blk_simp [idx0_3]
    rfl
  have e1 : (((win0_3.blk t).view.emb y) 2).val = (btok (gm0 t) (y 2 : Fin 2048)).val := by
    blk_simp [idx0_3]
    show (grid0.coords t 1).val * 2048 + (y 2).val = 2048 * (grid0.coords t 1).val + (y 2).val
    omega
  have e2 : (((win0_3.blk t).view.emb y) 1).val = (y 1).val := by
    blk_simp [idx0_3]
  unfold GKT
  exact congr (congr (congrArg (kCod (A1 m c)) (Fin.ext e0.symm)) (Fin.ext e1.symm)) (Fin.ext e2.symm)

theorem arr0_4 : (dat0 (V1 m ρ) c).arrAt 4 cfg0.N = GKT (A2 m c) := by
  refine (dat0 (V1 m ρ) c).arrAt_eq_of_covers 4 _ (by decide +kernel) fun t hf y => ?_
  blk_simp
  rw [after0_4, out0_4_eq]
  refine (kCode_val (A2 m c) _ _ _ (blk0_1 m ρ c t) (y 2 : Fin 2048) (y 1 : Fin 64)).trans ?_
  have e0 : (((win0_4.blk t).view.emb y) 0).val = (gb0 t).val := by
    blk_simp [idx0_4]
    rfl
  have e1 : (((win0_4.blk t).view.emb y) 2).val = (btok (gm0 t) (y 2 : Fin 2048)).val := by
    blk_simp [idx0_4]
    show (grid0.coords t 1).val * 2048 + (y 2).val = 2048 * (grid0.coords t 1).val + (y 2).val
    omega
  have e2 : (((win0_4.blk t).view.emb y) 1).val = (y 1).val := by
    blk_simp [idx0_4]
  unfold GKT
  exact congr (congr (congrArg (kCod (A2 m c)) (Fin.ext e0.symm)) (Fin.ext e1.symm)) (Fin.ext e2.symm)

theorem arr0_5 : (dat0 (V1 m ρ) c).arrAt 5 cfg0.N = GS (A1 m c) := by
  refine (dat0 (V1 m ρ) c).arrAt_eq_of_covers 5 _ (by decide +kernel) fun t hf y => ?_
  blk_simp
  rw [after0_5, out0_5_eq]
  refine (kSV_val (A1 m c) _ _ _ (blk0_0 m ρ c t) (y 1 : Fin 16) (y 2 : Fin 128)).trans ?_
  have e0 : (((win0_5.blk t).view.emb y) 0).val = (gb0 t).val := by
    blk_simp [idx0_5]
    rfl
  have e1 : (((win0_5.blk t).view.emb y) 1).val = 16 * (gm0 t).val + (y 1).val := by
    blk_simp [idx0_5]
    show (grid0.coords t 1).val * 16 + (y 1).val = 16 * (grid0.coords t 1).val + (y 1).val
    omega
  unfold GS
  exact congr (congrArg (kScl (A1 m c)) (Fin.ext e0.symm)) (Fin.ext e1.symm)

theorem arr0_6 : (dat0 (V1 m ρ) c).arrAt 6 cfg0.N = GS (A2 m c) := by
  refine (dat0 (V1 m ρ) c).arrAt_eq_of_covers 6 _ (by decide +kernel) fun t hf y => ?_
  blk_simp
  rw [after0_6, out0_6_eq]
  refine (kSV_val (A2 m c) _ _ _ (blk0_1 m ρ c t) (y 1 : Fin 16) (y 2 : Fin 128)).trans ?_
  have e0 : (((win0_6.blk t).view.emb y) 0).val = (gb0 t).val := by
    blk_simp [idx0_6]
    rfl
  have e1 : (((win0_6.blk t).view.emb y) 1).val = 16 * (gm0 t).val + (y 1).val := by
    blk_simp [idx0_6]
    show (grid0.coords t 1).val * 16 + (y 1).val = 16 * (grid0.coords t 1).val + (y 1).val
    omega
  unfold GS
  exact congr (congrArg (kScl (A2 m c)) (Fin.ext e0.symm)) (Fin.ext e1.symm)

end Cert.KernelIdeal.Val
-- ==== Proof.KArr2.lean ====
module

public import proofs.«01_k».proof.Proof.KArr
public import proofs.«01_k».proof.Proof.Att

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable (m : (ℓ : Loc nD τ sig) → Buf (Elt Ideal) ℓ) (ρ : Dev nD → PrngReg) (c : Dev nD)

/-! ## What the second call reads -/

theorem row_at (a1 : S2x32768x64.Idx → EReal) (b : Fin 2) (n : Fin 256) :
    shapeCast S2x256 (extractStridedSlice S2x256x1 ![0, 0, 0] (GS a1) slices_S2x256x128_S2x256x1_0_0_0) shapeCasts_S2x256x1_S2x256 (ix2 b n) = kScl a1 b n := by
  pointwise []
  rfl

theorem V3_v0 : V3 m ρ c main_v5 = shapeCast S2x256 (extractStridedSlice S2x256x1 ![0, 0, 0] (GS (A1 m c)) slices_S2x256x128_S2x256x1_0_0_0) shapeCasts_S2x256x1_S2x256 := by
  have e : W2 m ρ c (Proc.devRef .tc main_v2_3) = GS (A1 m c) := (W2_arr m ρ c 5).trans (arr0_5 m ρ c)
  rw [← e]
  show StableHlo.after hostOps1 (W2 m ρ c) (Proc.devRef .tc main_v5) = _
  generalize W2 m ρ c = V
  unfold_abbrev_sides
  after_results
  rfl

theorem blk1_0 (t : Fin cfg1.N) (b : Fin 2) (n : Fin 256) : iblk1 (V3 m ρ) c 0 t (ix2 b n) = kScl (A1 m c) b n := by
  show V3 m ρ c main_v5 ((win1_0.blk t).view.emb (ix2 b n)) = _
  have e : (win1_0.blk t).view.emb (ix2 b n) = ix2 b n := by
    funext a
    apply Fin.ext
    fin_cases a
    · show (((win1_0.blk t).view.emb (ix2 b n)) 0).val = b.val
      blk_simp [idx1_0]
    · show (((win1_0.blk t).view.emb (ix2 b n)) 1).val = n.val
      blk_simp [idx1_0]
  rw [V3_v0]
  exact (congrArg _ e).trans (row_at (A1 m c) b n)

theorem V3_v1 : V3 m ρ c main_v6 = shapeCast S2x256 (extractStridedSlice S2x256x1 ![0, 0, 0] (GS (A2 m c)) slices_S2x256x128_S2x256x1_0_0_0) shapeCasts_S2x256x1_S2x256 := by
  have e : W2 m ρ c (Proc.devRef .tc main_v2_4) = GS (A2 m c) := (W2_arr m ρ c 6).trans (arr0_6 m ρ c)
  rw [← e]
  show StableHlo.after hostOps1 (W2 m ρ c) (Proc.devRef .tc main_v6) = _
  generalize W2 m ρ c = V
  unfold_abbrev_sides
  after_results
  rfl

theorem blk1_1 (t : Fin cfg1.N) (b : Fin 2) (n : Fin 256) : iblk1 (V3 m ρ) c 1 t (ix2 b n) = kScl (A2 m c) b n := by
  show V3 m ρ c main_v6 ((win1_1.blk t).view.emb (ix2 b n)) = _
  have e : (win1_1.blk t).view.emb (ix2 b n) = ix2 b n := by
    funext a
    apply Fin.ext
    fin_cases a
    · show (((win1_1.blk t).view.emb (ix2 b n)) 0).val = b.val
      blk_simp [idx1_1]
    · show (((win1_1.blk t).view.emb (ix2 b n)) 1).val = n.val
      blk_simp [idx1_1]
  rw [V3_v1]
  exact (congrArg _ e).trans (row_at (A2 m c) b n)

theorem blk1_2 (t : Fin cfg1.N) (q : Fin 128) (e : Fin 512) : iblk1 (V3 m ρ) c 2 t (ix3 (0 : Fin 1) q e) = A0 m c (ix3 (gb1 t) (tok (gn1 t) q) e) := by
  show V3 m ρ c main_arg0 ((win1_2.blk t).view.emb (ix3 (0 : Fin 1) q e)) = _
  have h : V3 m ρ c main_arg0 = A0 m c := W3_args m ρ c main_arg0 (by decide)
  have e : (win1_2.blk t).view.emb (ix3 (0 : Fin 1) q e) = ix3 (gb1 t) (tok (gn1 t) q) e := by
    funext a
    apply Fin.ext
    fin_cases a
    · show (((win1_2.blk t).view.emb (ix3 (0 : Fin 1) q e)) 0).val = (grid1.coords t 0).val
      blk_simp [idx1_2]
      try rfl
    · show (((win1_2.blk t).view.emb (ix3 (0 : Fin 1) q e)) 1).val = 128 * (grid1.coords t 1).val + q.val
      blk_simp [idx1_2]
      show (grid1.coords t 1).val * 128 + q.val = _
      omega
    · show (((win1_2.blk t).view.emb (ix3 (0 : Fin 1) q e)) 2).val = e.val
      blk_simp [idx1_2]
  rw [h]
  exact congrArg _ e

theorem blk1_3 (t : Fin cfg1.N) (k : Fin 32768) (d : Fin 64) : iblk1 (V3 m ρ) c 3 t (ix3 (0 : Fin 1) k d) = kCod (A1 m c) (gb1 t) k d := by
  show V3 m ρ c main_v2_0 ((win1_3.blk t).view.emb (ix3 (0 : Fin 1) k d)) = _
  have h : V3 m ρ c main_v2_0 = GK (A1 m c) := (W3_of m ρ c main_v2_0 (by decide)).trans ((W2_arr m ρ c 2).trans (arr0_2 m ρ c))
  have e : (win1_3.blk t).view.emb (ix3 (0 : Fin 1) k d) = ix3 (gb1 t) k d := by
    funext a
    apply Fin.ext
    fin_cases a
    · show (((win1_3.blk t).view.emb (ix3 (0 : Fin 1) k d)) 0).val = (grid1.coords t 0).val
      blk_simp [idx1_3]
      try rfl
    · show (((win1_3.blk t).view.emb (ix3 (0 : Fin 1) k d)) 1).val = k.val
      blk_simp [idx1_3]
    · show (((win1_3.blk t).view.emb (ix3 (0 : Fin 1) k d)) 2).val = d.val
      blk_simp [idx1_3]
  rw [h]
  exact (congrArg _ e).trans rfl

theorem blk1_4 (t : Fin cfg1.N) (k : Fin 32768) (d : Fin 64) : iblk1 (V3 m ρ) c 4 t (ix3 (0 : Fin 1) d k) = kCod (A2 m c) (gb1 t) k d := by
  show V3 m ρ c main_v2_2 ((win1_4.blk t).view.emb (ix3 (0 : Fin 1) d k)) = _
  have h : V3 m ρ c main_v2_2 = GKT (A2 m c) := (W3_of m ρ c main_v2_2 (by decide)).trans ((W2_arr m ρ c 4).trans (arr0_4 m ρ c))
  have e : (win1_4.blk t).view.emb (ix3 (0 : Fin 1) d k) = ix3 (gb1 t) d k := by
    funext a
    apply Fin.ext
    fin_cases a
    · show (((win1_4.blk t).view.emb (ix3 (0 : Fin 1) d k)) 0).val = (grid1.coords t 0).val
      blk_simp [idx1_4]
      try rfl
    · show (((win1_4.blk t).view.emb (ix3 (0 : Fin 1) d k)) 1).val = d.val
      blk_simp [idx1_4]
    · show (((win1_4.blk t).view.emb (ix3 (0 : Fin 1) d k)) 2).val = k.val
      blk_simp [idx1_4]
  rw [h]
  exact (congrArg _ e).trans rfl

/-! ## What the second call writes -/

/-- The block of `y`. -/
theorem out1_5_val (t : Fin cfg1.N) (q : Fin 128) (e : Fin 512) :
    (outsAt1 (V3 m ρ) c t).1 (ix3 (0 : Fin 1) q e) = ((yR (A0 m c) (A1 m c) (A2 m c) (gb1 t) (tok (gn1 t) q) (hd e) (fd e) : ℝ) : EReal) := by
  unfold outsAt1
  dsimp only
  rw [out5_eq]
  have h := y_val (A0 m c) (A1 m c) (A2 m c) (iblk1 (V3 m ρ) c 0 t) (iblk1 (V3 m ρ) c 1 t) (iblk1 (V3 m ρ) c 2 t) (iblk1 (V3 m ρ) c 3 t) (iblk1 (V3 m ρ) c 4 t) (gb1 t) (gn1 t)
    (blk1_0 m ρ c t) (blk1_1 m ρ c t) (blk1_2 m ρ c t) (blk1_3 m ρ c t) (blk1_4 m ρ c t) (hd e) (fd e) q
  rw [feat_hd] at h
  exact h

/-- The block of query codes. -/
theorem out1_6_val (t : Fin cfg1.N) (e : Fin 512) (q : Fin 128) :
    (outsAt1 (V3 m ρ) c t).2.1 (ix3 (0 : Fin 1) e q) = qCod (A0 m c) (gb1 t) (tok (gn1 t) q) (hd e) (fd e) := by
  unfold outsAt1
  dsimp only
  rw [out6_eq]
  have h := q6_val (A0 m c) (iblk1 (V3 m ρ) c 2 t) (gb1 t) (gn1 t) (blk1_2 m ρ c t) (hd e) (fd e) q
  rw [feat_hd] at h
  exact h

/-- The block of query scales. -/
theorem out1_7_val (t : Fin cfg1.N) (h : Fin 8) (q : Fin 128) :
    (outsAt1 (V3 m ρ) c t).2.2 (ix4 (0 : Fin 1) (0 : Fin 1) h q) = qScl (A0 m c) (gb1 t) (gn1 t) h := by
  unfold outsAt1
  dsimp only
  rw [out7_eq]
  exact q7_val (A0 m c) (iblk1 (V3 m ρ) c 2 t) (gb1 t) (gn1 t) (blk1_2 m ρ c t) h q

theorem arr1_5 : (dat1 (V3 m ρ) c).arrAt 5 cfg1.N = resY (A0 m c) (A1 m c) (A2 m c) := by
  refine (dat1 (V3 m ρ) c).arrAt_eq_of_covers 5 _ (by decide +kernel) fun t hf y => ?_
  blk_simp
  rw [after1_5]
  have ey : y = ix3 (0 : Fin 1) (y 1 : Fin 128) (y 2 : Fin 512) := by
    funext a
    apply Fin.ext
    have h0 : (y 0).val < 1 := (y 0).isLt
    fin_cases a
    · show (y 0).val = 0
      omega
    · rfl
    · rfl
  refine (congrArg (outsAt1 (V3 m ρ) c t).1 ey).trans ((out1_5_val m ρ c t (y 1 : Fin 128) (y 2 : Fin 512)).trans ?_)
  have e : (win1_5.blk t).view.emb y = ix3 (gb1 t) (tok (gn1 t) (y 1 : Fin 128)) (y 2 : Fin 512) := by
    funext a
    apply Fin.ext
    fin_cases a
    · show (((win1_5.blk t).view.emb y) 0).val = (grid1.coords t 0).val
      blk_simp [idx1_5]
      try rfl
    · show (((win1_5.blk t).view.emb y) 1).val = 128 * (grid1.coords t 1).val + (y 1).val
      blk_simp [idx1_5]
      show (grid1.coords t 1).val * 128 + (y 1).val = _
      omega
    · show (((win1_5.blk t).view.emb y) 2).val = (y 2).val
      blk_simp [idx1_5]
  exact (show _ = resY (A0 m c) (A1 m c) (A2 m c) (ix3 (gb1 t) (tok (gn1 t) (y 1 : Fin 128)) (y 2 : Fin 512)) from rfl).trans (congrArg _ e.symm)

theorem arr1_6 : (dat1 (V3 m ρ) c).arrAt 6 cfg1.N = GQ (A0 m c) := by
  refine (dat1 (V3 m ρ) c).arrAt_eq_of_covers 6 _ (by decide +kernel) fun t hf y => ?_
  blk_simp
  rw [after1_6]
  have ey : y = ix3 (0 : Fin 1) (y 1 : Fin 512) (y 2 : Fin 128) := by
    funext a
    apply Fin.ext
    have h0 : (y 0).val < 1 := (y 0).isLt
    fin_cases a
    · show (y 0).val = 0
      omega
    · rfl
    · rfl
  refine (congrArg (outsAt1 (V3 m ρ) c t).2.1 ey).trans ((out1_6_val m ρ c t (y 1 : Fin 512) (y 2 : Fin 128)).trans ?_)
  have e : (win1_6.blk t).view.emb y = ix3 (gb1 t) (y 1 : Fin 512) (tok (gn1 t) (y 2 : Fin 128)) := by
    funext a
    apply Fin.ext
    fin_cases a
    · show (((win1_6.blk t).view.emb y) 0).val = (grid1.coords t 0).val
      blk_simp [idx1_6]
      try rfl
    · show (((win1_6.blk t).view.emb y) 1).val = (y 1).val
      blk_simp [idx1_6]
    · show (((win1_6.blk t).view.emb y) 2).val = 128 * (grid1.coords t 1).val + (y 2).val
      blk_simp [idx1_6]
      show (grid1.coords t 1).val * 128 + (y 2).val = _
      omega
  exact (show _ = GQ (A0 m c) (ix3 (gb1 t) (y 1 : Fin 512) (tok (gn1 t) (y 2 : Fin 128))) from rfl).trans (congrArg _ e.symm)

theorem arr1_7 : (dat1 (V3 m ρ) c).arrAt 7 cfg1.N = GQS (A0 m c) := by
  refine (dat1 (V3 m ρ) c).arrAt_eq_of_covers 7 _ (by decide +kernel) fun t hf y => ?_
  blk_simp
  rw [after1_7]
  have ey : y = ix4 (0 : Fin 1) (0 : Fin 1) (y 2 : Fin 8) (y 3 : Fin 128) := by
    funext a
    apply Fin.ext
    have h0 : (y 0).val < 1 := (y 0).isLt
    have h1 : (y 1).val < 1 := (y 1).isLt
    fin_cases a
    · show (y 0).val = 0
      omega
    · show (y 1).val = 0
      omega
    · rfl
    · rfl
  refine (congrArg (outsAt1 (V3 m ρ) c t).2.2 ey).trans ((out1_7_val m ρ c t (y 2 : Fin 8) (y 3 : Fin 128)).trans ?_)
  have e : (win1_7.blk t).view.emb y = ix4 (gb1 t) (gn1 t) (y 2 : Fin 8) (y 3 : Fin 128) := by
    funext a
    apply Fin.ext
    fin_cases a
    · show (((win1_7.blk t).view.emb y) 0).val = (grid1.coords t 0).val
      blk_simp [idx1_7]
      try rfl
    · show (((win1_7.blk t).view.emb y) 1).val = (grid1.coords t 1).val
      blk_simp [idx1_7]
      try rfl
    · show (((win1_7.blk t).view.emb y) 2).val = (y 2).val
      blk_simp [idx1_7]
    · show (((win1_7.blk t).view.emb y) 3).val = (y 3).val
      blk_simp [idx1_7]
  exact (show _ = GQS (A0 m c) (ix4 (gb1 t) (gn1 t) (y 2 : Fin 8) (y 3 : Fin 128)) from rfl).trans (congrArg _ e.symm)

end Cert.KernelIdeal.Val
-- ==== Proof.KRun.lean ====
module

public import proofs.«01_k».proof.Proof.KArr2

@[expose] public section

set_option maxRecDepth 16384

noncomputable section

namespace Cert.KernelIdeal.Val

open Cert.KernelIdeal Cert.KernelIdeal.Gen Cert.Spec
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

open scoped Idealize.SL.BI
open Idealize.SL.BI.BIBase Idealize.SL.BI.Laws Idealize.SL.ProofMode
open Idealize.ShloMosaic.Rounds

/-! ## The re-laid results at an index -/

theorem relay_q (a0 : S2x32768x512.Idx → EReal) :
    transpose S2x32768x8x64 [0, 3, 1, 2] (shapeCast S2x8x64x32768 (GQ a0) shapeCasts_S2x512x32768_S2x8x64x32768) transposes_S2x8x64x32768_S2x32768x8x64_0_3_1_2 = resQC a0 := by
  funext i
  have e : ∀ (b : Fin 2) (t : Fin 32768) (h : Fin 8) (d : Fin 64), shapeCast S2x8x64x32768 (GQ a0) shapeCasts_S2x512x32768_S2x8x64x32768 (ix4 b h d t) = qCod a0 b t h d := by
    intro b t h d
    refine (Idealize.ShloMosaic.shapeCast_apply _ _ _ (ix3 b (feat h d) t) ?_).trans ?_
    · rw [Shape.rowMajor_val_three, Shape.rowMajor_val_four]
      show (b.val * 512 + (64 * h.val + d.val)) * 32768 + t.val = ((b.val * 8 + h.val) * 64 + d.val) * 32768 + t.val
      omega
    have e1 : hd (feat h d) = h := Fin.ext (by
      show (64 * h.val + d.val) / 64 = h.val
      omega)
    have e2 : fd (feat h d) = d := Fin.ext (by
      show (64 * h.val + d.val) % 64 = d.val
      omega)
    exact congr (congrArg (qCod a0 b t) e1) e2
  refine (Idealize.ShloMosaic.transpose_apply _ _ _ _ (ix4 (i 0 : Fin 2) (i 2 : Fin 8) (i 3 : Fin 64) (i 1 : Fin 32768)) ?_).trans (e _ _ _ _)
  intro a
  fin_cases a <;> rfl

theorem relay_qs (a0 : S2x32768x512.Idx → EReal) :
    shapeCast S2x256x8 (extractStridedSlice S2x256x8x1 ![0, 0, 0, 0] (GQS a0) slices_S2x256x8x128_S2x256x8x1_0_0_0_0) shapeCasts_S2x256x8x1_S2x256x8 = resQS a0 := by
  funext i
  refine (Idealize.ShloMosaic.shapeCast_apply _ _ _ (ix4 (i 0 : Fin 2) (i 1 : Fin 256) (i 2 : Fin 8) (0 : Fin 1)) ?_).trans ?_
  · rw [Shape.rowMajor_val_three, Shape.rowMajor_val_four]
    show (((i 0).val * 256 + (i 1).val) * 8 + (i 2).val) * 1 + 0 = ((i 0).val * 256 + (i 1).val) * 8 + (i 2).val
    omega
  refine (Idealize.ShloMosaic.extractStridedSlice_apply _ _ _ _ (ix4 (i 0 : Fin 2) (i 1 : Fin 256) (i 2 : Fin 8) (0 : Fin 128)) ?_).trans rfl
  intro a
  fin_cases a
  · exact (Nat.zero_add _).symm
  · exact (Nat.zero_add _).symm
  · exact (Nat.zero_add _).symm
  · rfl

theorem relay_k (a1 : S2x32768x64.Idx → EReal) :
    shapeCast S2x32768x1x64 (transpose S2x32768x64 [0, 2, 1] (GKT a1) transposes_S2x64x32768_S2x32768x64_0_2_1) shapeCasts_S2x32768x64_S2x32768x1x64 = resKC a1 := by
  funext i
  have h2 : (i 2).val < 1 := (i 2).isLt
  refine (Idealize.ShloMosaic.shapeCast_apply _ _ _ (ix3 (i 0 : Fin 2) (i 1 : Fin 32768) (i 3 : Fin 64)) ?_).trans ?_
  · rw [Shape.rowMajor_val_three, Shape.rowMajor_val_four]
    show ((i 0).val * 32768 + (i 1).val) * 64 + (i 3).val = (((i 0).val * 32768 + (i 1).val) * 1 + (i 2).val) * 64 + (i 3).val
    omega
  refine (Idealize.ShloMosaic.transpose_apply _ _ _ _ (ix3 (i 0 : Fin 2) (i 3 : Fin 64) (i 1 : Fin 32768)) ?_).trans rfl
  intro a
  fin_cases a <;> rfl

theorem relay_ks (a1 : S2x32768x64.Idx → EReal) :
    extractStridedSlice S2x256x1 ![0, 0, 0] (GS a1) slices_S2x256x128_S2x256x1_0_0_0 = resKS a1 := by
  funext i
  have h2 : (i 2).val < 1 := (i 2).isLt
  refine (Idealize.ShloMosaic.extractStridedSlice_apply _ _ _ _ (ix3 (i 0 : Fin 2) (i 1 : Fin 256) (0 : Fin 128)) ?_).trans rfl
  intro a
  fin_cases a
  · exact (Nat.zero_add _).symm
  · exact (Nat.zero_add _).symm
  · show 0 = 0 + (i 2).val
    omega

variable (m : (ℓ : Loc nD τ sig) → Buf (Elt Ideal) ℓ) (ρ : Dev nD → PrngReg) (c : Dev nD)

/-! ## The final contents of the results -/

theorem W5_y : W5 m ρ c (Proc.devRef .tc main_v7_0) = resY (A0 m c) (A1 m c) (A2 m c) :=
  (W5_of m ρ c main_v7_0 (by decide)).trans ((W4_arr m ρ c 5).trans (arr1_5 m ρ c))

theorem W5_qc : W5 m ρ c (Proc.devRef .tc main_v9) = resQC (A0 m c) := by
  have e : W4 m ρ c (Proc.devRef .tc main_v7_1) = GQ (A0 m c) := (W4_arr m ρ c 6).trans (arr1_6 m ρ c)
  rw [← relay_q, ← e]
  show StableHlo.after hostOps2 (W4 m ρ c) (Proc.devRef .tc main_v9) = _
  generalize W4 m ρ c = V
  unfold_abbrev_sides
  after_results
  rfl

theorem W5_qs : W5 m ρ c (Proc.devRef .tc main_v15) = resQS (A0 m c) := by
  have e : W4 m ρ c (Proc.devRef .tc main_v7_2) = GQS (A0 m c) := (W4_arr m ρ c 7).trans (arr1_7 m ρ c)
  rw [← relay_qs, ← e]
  show StableHlo.after hostOps2 (W4 m ρ c) (Proc.devRef .tc main_v15) = _
  generalize W4 m ρ c = V
  unfold_abbrev_sides
  after_results
  rfl

theorem W5_kc : W5 m ρ c (Proc.devRef .tc main_v11) = resKC (A1 m c) := by
  have e : W4 m ρ c (Proc.devRef .tc main_v2_1) = GKT (A1 m c) := (W4_of m ρ c main_v2_1 (by decide)).trans ((W3_of m ρ c main_v2_1 (by decide)).trans ((W2_arr m ρ c 3).trans (arr0_3 m ρ c)))
  rw [← relay_k, ← e]
  show StableHlo.after hostOps2 (W4 m ρ c) (Proc.devRef .tc main_v11) = _
  generalize W4 m ρ c = V
  unfold_abbrev_sides
  after_results
  rfl

theorem W5_vc : W5 m ρ c (Proc.devRef .tc main_v13) = resKC (A2 m c) := by
  have e : W4 m ρ c (Proc.devRef .tc main_v2_2) = GKT (A2 m c) := (W4_of m ρ c main_v2_2 (by decide)).trans ((W3_of m ρ c main_v2_2 (by decide)).trans ((W2_arr m ρ c 4).trans (arr0_4 m ρ c)))
  rw [← relay_k, ← e]
  show StableHlo.after hostOps2 (W4 m ρ c) (Proc.devRef .tc main_v13) = _
  generalize W4 m ρ c = V
  unfold_abbrev_sides
  after_results
  rfl

theorem W5_ks : W5 m ρ c (Proc.devRef .tc main_v3) = resKS (A1 m c) := by
  refine (W5_of m ρ c main_v3 (by decide)).trans ((W4_of m ρ c main_v3 (by decide)).trans ?_)
  have e : W2 m ρ c (Proc.devRef .tc main_v2_3) = GS (A1 m c) := (W2_arr m ρ c 5).trans (arr0_5 m ρ c)
  rw [← relay_ks, ← e]
  show StableHlo.after hostOps1 (W2 m ρ c) (Proc.devRef .tc main_v3) = _
  generalize W2 m ρ c = V
  unfold_abbrev_sides
  after_results

theorem W5_vs : W5 m ρ c (Proc.devRef .tc main_v4) = resKS (A2 m c) := by
  refine (W5_of m ρ c main_v4 (by decide)).trans ((W4_of m ρ c main_v4 (by decide)).trans ?_)
  have e : W2 m ρ c (Proc.devRef .tc main_v2_4) = GS (A2 m c) := (W2_arr m ρ c 6).trans (arr0_6 m ρ c)
  rw [← relay_ks, ← e]
  show StableHlo.after hostOps1 (W2 m ρ c) (Proc.devRef .tc main_v4) = _
  generalize W2 m ρ c = V
  unfold_abbrev_sides
  after_results

/-- Every run of the idealised kernel ends with the seven results at the specification's arrays and the arguments unchanged. -/
theorem run : θ_run defs (onTc (τ := τ) (main (F := Ideal))) ⟨m, fun _ => 0, ρ⟩ (fun r => ∀ c : Dev nD,
      r.2.mem ((c.tc : Thread nD τ).loc main_v7_0) = resY (A0 m c) (A1 m c) (A2 m c)
      ∧ r.2.mem ((c.tc : Thread nD τ).loc main_v9) = resQC (A0 m c)
      ∧ r.2.mem ((c.tc : Thread nD τ).loc main_v15) = resQS (A0 m c)
      ∧ r.2.mem ((c.tc : Thread nD τ).loc main_v11) = resKC (A1 m c)
      ∧ r.2.mem ((c.tc : Thread nD τ).loc main_v3) = resKS (A1 m c)
      ∧ r.2.mem ((c.tc : Thread nD τ).loc main_v13) = resKC (A2 m c)
      ∧ r.2.mem ((c.tc : Thread nD τ).loc main_v4) = resKS (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨(h c _ (mem_uc main_v7_0 (by decide))).trans (W5_y m ρ c),
       (h c _ (mem_uc main_v9 (by decide))).trans (W5_qc m ρ c),
       (h c _ (mem_uc main_v15 (by decide))).trans (W5_qs m ρ c),
       (h c _ (mem_uc main_v11 (by decide))).trans (W5_kc m ρ c),
       (h c _ (mem_uc main_v3 (by decide))).trans (W5_ks m ρ c),
       (h c _ (mem_uc main_v13 (by decide))).trans (W5_vc m ρ c),
       (h c _ (mem_uc main_v4 (by decide))).trans (W5_vs m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Val
-- ==== Proof.RefQuant.lean ====
module

public import proofs.«01_k».proof.Proof.Gen.ReferenceIdeal.Frame
public import Idealize.ShloMosaic.Lib.Pointwise
public import Idealize.ShloMosaic.Lib.Pipeline.Value
public import Idealize.ShloMosaic.PureOps.Ideal.Laws
public import proofs.«01_k».proof.Proof.Out

@[expose] public section

@[expose] public section

set_option maxRecDepth 16384

noncomputable section

namespace Cert.ReferenceIdeal.Val

open Cert.ReferenceIdeal Cert.ReferenceIdeal.Gen Cert.Spec
open Idealize.ShloMosaic Idealize.ShloMosaic.TcCoe Idealize.ShloMosaic.Tactic

/-! ## The steps of the quantiser on arrays of any shape -/

section
variable {F : FTy → Type} [FloatOps F] [Named F] {s : Shape}

/-- The exponents of the scales. -/
def expV (v : FVec F s .f32) : IVec s 32 :=
  select (cmpf .ogt v (broadcast s (Scalar.ofBits .f32 0x00000000#32 : F .f32)))
    (addi (fptosi 32 (floor (mulf (log (mulf v (broadcast s (Scalar.ofBits .f32 0x3B124925#32)))) (broadcast s (Named.named κ "inv_ln2" 0x3FB8AA3B#32))))) (broadcast s 1#32))
    (broadcast s 0#32)

/-- The scales. -/
def sclV (v : FVec F s .f32) : FVec F s .f32 := exp2 (sitofp .f32 (expV v))
/-- Their reciprocals. -/
def invV (v : FVec F s .f32) : FVec F s .f32 := exp2 (sitofp .f32 (subi (broadcast s 0#32) (expV v)))
/-- Clipping to the range of the code format. -/
def clipV (v : FVec F s .f32) : FVec F s .fp8e4m3 :=
  truncf .fp8e4m3 (minimumf (broadcast s (Scalar.ofBits .f32 0x43E00000#32)) (maximumf (broadcast s (Scalar.ofBits .f32 0xC3E00000#32)) v)) bitsLt_fp8e4m3_f32
end

section
variable {s : Shape} (v : FVec Ideal s .f32) (i : s.Idx)

theorem expV_at : expV (F := Ideal) v i = expW (v i) := by
  pointwise [expV]
  have h : Named.named (F := Ideal) (φ := .f32) κ "inv_ln2" 1069066811#32 = (((Real.log 2)⁻¹ : ℝ) : EReal) := IdealRules.named_const.ideal_named_scalar κ "inv_ln2" (φ := .f32) 1069066811#32 _ rfl
  erw [h]
  rfl
theorem sclV_at : sclV (F := Ideal) v i = scl (v i) := by
  pointwise [sclV]
  rw [expV_at]
  rfl
theorem invV_at : invV (F := Ideal) v i = inv (v i) := by
  pointwise [invV]
  rw [expV_at]
  rfl
theorem clipV_at : clipV (F := Ideal) v i = clip (v i) := by
  pointwise [clipV]
  rfl
end

/-! ## The largest magnitude of a tile -/

/-- The maximum over the indices of a five-axis array that agree with `(b, n, h)` on its axes 0, 1, 3. -/
theorem fold_tile {H : ℕ} (f : (⟨5, ![2, 256, 128, H, 64]⟩ : Shape).Idx → EReal) (drop : (⟨5, ![2, 256, 128, H, 64]⟩ : Shape).Idx → (⟨3, ![2, 256, H]⟩ : Shape).Idx)
    (hd : ∀ (b : Fin 2) (n : Fin 256) (r : Fin 128) (h : Fin H) (d : Fin 64), drop (ix5 b n r h d) = ix3 b n h) (b : Fin 2) (n : Fin 256) (h : Fin H) :
    (Finset.univ.filter fun i => drop i = ix3 b n h).fold max ⊥ f = Finset.univ.sup fun r : Fin 128 => Finset.univ.sup fun d : Fin 64 => f (ix5 b n r h d) := by
  show (Finset.univ.filter fun i => drop i = ix3 b n h).sup f = _
  apply le_antisymm
  · refine Finset.sup_le fun i hi => ?_
    have hi' := (Finset.mem_filter.1 hi).2
    obtain ⟨b', n', r', h', d', rfl⟩ : ∃ (b' : Fin 2) (n' : Fin 256) (r' : Fin 128) (h' : Fin H) (d' : Fin 64), i = ix5 b' n' r' h' d' :=
      ⟨i 0, i 1, i 2, i 3, i 4, by
        funext a
        fin_cases a <;> rfl⟩
    rw [hd] at hi'
    have h0 : b' = b := congrFun hi' 0
    have h1 : n' = n := congrFun hi' 1
    have h2 : h' = h := congrFun hi' 2
    subst h0 h1 h2
    exact (Finset.le_sup (f := fun d : Fin 64 => f (ix5 b' n' r' h' d)) (Finset.mem_univ d')).trans
      (Finset.le_sup (f := fun r : Fin 128 => Finset.univ.sup fun d : Fin 64 => f (ix5 b' n' r h' d)) (Finset.mem_univ r'))
  · refine Finset.sup_le fun r _ => Finset.sup_le fun d _ => ?_
    exact Finset.le_sup (f := f) (Finset.mem_filter.2 ⟨Finset.mem_univ _, hd b n r h d⟩)

variable (a0 : Vec Ideal S2x32768x512 .bf16) (a1 : Vec Ideal S2x32768x64 .bf16)
variable (b : Fin 2) (n : Fin 256) (t : Fin 32768) (h : Fin 8) (d : Fin 64) (r : Fin 128)

theorem pay2_at : k0_pay2 (F := Ideal) a0 (ix5 b n r h d) = a0 (ix3 b (tok n r) (feat h d)) := by
  unfold k0_pay2
  refine (Idealize.ShloMosaic.shapeCast_apply _ _ _ (ix4 b (tok n r) h d) ?_).trans ?_
  · rw [Shape.rowMajor_val_four, Shape.rowMajor_val_five]
    show ((b.val * 32768 + (128 * n.val + r.val)) * 8 + h.val) * 64 + d.val = (((b.val * 256 + n.val) * 128 + r.val) * 8 + h.val) * 64 + d.val
    omega
  refine (Idealize.ShloMosaic.shapeCast_apply a0 _ _ (ix3 b (tok n r) (feat h d)) ?_)
  rw [Shape.rowMajor_val_three, Shape.rowMajor_val_four]
  show (b.val * 32768 + (128 * n.val + r.val)) * 512 + (64 * h.val + d.val) = ((b.val * 32768 + (128 * n.val + r.val)) * 8 + h.val) * 64 + d.val
  omega

theorem pay6_at : k0_pay6 (F := Ideal) a1 (ix5 b n r (0 : Fin 1) d) = a1 (ix3 b (tok n r) d) := by
  unfold k0_pay6
  refine (Idealize.ShloMosaic.shapeCast_apply _ _ _ (ix4 b (tok n r) (0 : Fin 1) d) ?_).trans ?_
  · rw [Shape.rowMajor_val_four, Shape.rowMajor_val_five]
    show ((b.val * 32768 + (128 * n.val + r.val)) * 1 + 0) * 64 + d.val = (((b.val * 256 + n.val) * 128 + r.val) * 1 + 0) * 64 + d.val
    omega
  refine (Idealize.ShloMosaic.shapeCast_apply a1 _ _ (ix3 b (tok n r) d) ?_)
  rw [Shape.rowMajor_val_three, Shape.rowMajor_val_four]
  show (b.val * 32768 + (128 * n.val + r.val)) * 64 + d.val = ((b.val * 32768 + (128 * n.val + r.val)) * 1 + 0) * 64 + d.val
  omega

/-- The largest magnitudes of the query tiles. -/
def qMax {F : FTy → Type} [FloatOps F] [Named F] (v0 : Vec F S2x32768x512 .bf16) : FVec F S2x256x8 .f32 :=
  multiReduction .maximumf [2, 4] S2x256x8 (absf (k0_pay2 v0)) 0xFF800000#32 reduces_S2x256x128x8x64_S2x256x8 (.inl rfl) rfl

theorem dropQ : (reduces_S2x256x128x8x64_S2x256x8).drop (ix5 b n r h d) = ix3 b n h := by
  funext a
  fin_cases a <;> rfl
theorem dropK : (reduces_S2x256x128x1x64_S2x256x1).drop (ix5 b n r (0 : Fin 1) d) = ix3 b n (0 : Fin 1) := by
  funext a
  fin_cases a <;> rfl

theorem qMax_at : qMax (F := Ideal) a0 (ix3 b n h) = amax (qTile a0 b n h) := by
  refine (multiReduction_maximumf_eq_fold (F := Ideal) (absf (k0_pay2 a0)) 0xFF800000#32 reduces_S2x256x128x8x64_S2x256x8 (.inl rfl) rfl (ix3 b n h)).trans ?_
  have e : (FloatOps.ofBits .f32 0xFF800000#32 : Ideal .f32) = (⊥ : EReal) := c_ninf
  rw [e]
  refine (fold_tile (H := 8) (absf (F := Ideal) (k0_pay2 a0)) _ (fun b n r h d => dropQ b n h d r) b n h).trans ?_
  show (Finset.univ.sup fun r : Fin 128 => Finset.univ.sup fun d : Fin 64 => max (k0_pay2 (F := Ideal) a0 (ix5 b n r h d)) (-(k0_pay2 (F := Ideal) a0 (ix5 b n r h d)))) = _
  simp only [pay2_at]
  rfl

theorem pay7_at (z : Fin 1) : k0_pay7 (F := Ideal) a1 (ix3 b n z) = amax (kTile a1 b n) := by
  have hz : z = 0 := Subsingleton.elim _ _
  subst hz
  refine (multiReduction_maximumf_eq_fold (F := Ideal) (absf (k0_pay6 a1)) 0xFF800000#32 reduces_S2x256x128x1x64_S2x256x1 (.inl rfl) rfl (ix3 b n (0 : Fin 1))).trans ?_
  have e : (FloatOps.ofBits .f32 0xFF800000#32 : Ideal .f32) = (⊥ : EReal) := c_ninf
  rw [e]
  refine (fold_tile (H := 1) (absf (F := Ideal) (k0_pay6 a1)) _ (fun b n r z d => by have hz : z = 0 := Subsingleton.elim _ _; subst hz; exact dropK b n d r) b n 0).trans ?_
  show (Finset.univ.sup fun r : Fin 128 => Finset.univ.sup fun d : Fin 64 => max (k0_pay6 (F := Ideal) a1 (ix5 b n r (0 : Fin 1) d)) (-(k0_pay6 (F := Ideal) a1 (ix5 b n r (0 : Fin 1) d)))) = _
  simp only [pay6_at]
  rfl

/-! ## Scales and codes -/

section
variable {F : FTy → Type} [FloatOps F] [Named F] (x : Vec F S2x32768x512 .bf16) (y : Vec F S2x32768x64 .bf16)
theorem pay4_def : k0_pay4 x = sclV (qMax x) := rfl
theorem pay5_def : k0_pay5 x = shapeCast S2x32768x8x64 (clipV (mulf (k0_pay2 x)
    (broadcastTo S2x256x128x8x64 (shapeCast S2x256x1x8x1 (invV (qMax x)) shapeCasts_S2x256x8_S2x256x1x8x1) broadcasts_S2x256x1x8x1_S2x256x128x8x64))) shapeCasts_S2x256x128x8x64_S2x32768x8x64 := rfl
theorem pay10_def : k0_pay10 (k0_pay7 y) (k0_pay8 y) = sclV (k0_pay7 y) := rfl
theorem pay11_def : k0_pay11 (k0_pay6 y) (k0_pay7 y) (k0_pay8 y) = shapeCast S2x32768x1x64 (clipV (mulf (k0_pay6 y)
    (broadcastTo S2x256x128x1x64 (shapeCast S2x256x1x1x1 (invV (k0_pay7 y)) shapeCasts_S2x256x1_S2x256x1x1x1) broadcasts_S2x256x1x1x1_S2x256x128x1x64))) shapeCasts_S2x256x128x1x64_S2x32768x1x64 := rfl
theorem pay14_def : k0_pay14 (F := F) (k0_pay13 y) = sclV (k0_pay7 y) := rfl
theorem pay15_def : k0_pay15 (k0_pay12 y) (k0_pay13 y) = k0_pay11 (k0_pay6 y) (k0_pay7 y) (k0_pay8 y) := rfl
end

theorem pay4_at : k0_pay4 (F := Ideal) a0 (ix3 b n h) = qScl a0 b n h := by
  rw [pay4_def, sclV_at, qMax_at]
  rfl
theorem pay10_at (z : Fin 1) : k0_pay10 (F := Ideal) (k0_pay7 a1) (k0_pay8 a1) (ix3 b n z) = kScl a1 b n := by
  rw [pay10_def, sclV_at, pay7_at]
  rfl
theorem pay14_at (z : Fin 1) : k0_pay14 (F := Ideal) (k0_pay13 a1) (ix3 b n z) = kScl a1 b n := by
  rw [pay14_def, sclV_at, pay7_at]
  rfl

theorem tok_blk : tok (blk t) ⟨t.val % 128, Nat.mod_lt _ (by decide)⟩ = t := Fin.ext (by show 128 * (t.val / 128) + t.val % 128 = t.val; omega)

theorem pay5_at : k0_pay5 (F := Ideal) a0 (ix4 b t h d) = qCod a0 b t h d := by
  rw [pay5_def]
  refine (Idealize.ShloMosaic.shapeCast_apply _ _ _ (ix5 b (blk t) (⟨t.val % 128, Nat.mod_lt _ (by decide)⟩ : Fin 128) h d) ?_).trans ?_
  · rw [Shape.rowMajor_val_four, Shape.rowMajor_val_five]
    show (((b.val * 256 + t.val / 128) * 128 + t.val % 128) * 8 + h.val) * 64 + d.val = ((b.val * 32768 + t.val) * 8 + h.val) * 64 + d.val
    omega
  rw [clipV_at]
  refine congrArg clip ?_
  refine congrArg₂ (fun x y : EReal => x * y) ((pay2_at a0 b (blk t) h d _).trans (by rw [tok_blk])) ?_
  refine (Idealize.ShloMosaic.broadcastTo_apply _ _ _ (ix5 b (blk t) (0 : Fin 1) h (0 : Fin 1)) ?_).trans ?_
  · intro a
    fin_cases a <;> rfl
  refine (Idealize.ShloMosaic.shapeCast_apply _ _ _ (ix3 b (blk t) h) ?_).trans ?_
  · rw [Shape.rowMajor_val_three, Shape.rowMajor_val_five]
    show (b.val * 256 + t.val / 128) * 8 + h.val = (((b.val * 256 + t.val / 128) * 1 + 0) * 8 + h.val) * 1 + 0
    omega
  rw [invV_at, qMax_at]

theorem pay11_at (z : Fin 1) : k0_pay11 (F := Ideal) (k0_pay6 a1) (k0_pay7 a1) (k0_pay8 a1) (ix4 b t z d) = kCod a1 b t d := by
  have hz : z = 0 := Subsingleton.elim _ _
  subst hz
  rw [pay11_def]
  refine (Idealize.ShloMosaic.shapeCast_apply _ _ _ (ix5 b (blk t) (⟨t.val % 128, Nat.mod_lt _ (by decide)⟩ : Fin 128) (0 : Fin 1) d) ?_).trans ?_
  · rw [Shape.rowMajor_val_four, Shape.rowMajor_val_five]
    show (((b.val * 256 + t.val / 128) * 128 + t.val % 128) * 1 + 0) * 64 + d.val = ((b.val * 32768 + t.val) * 1 + 0) * 64 + d.val
    omega
  rw [clipV_at]
  refine congrArg clip ?_
  refine congrArg₂ (fun x y : EReal => x * y) ((pay6_at a1 b (blk t) d _).trans (by rw [tok_blk])) ?_
  refine (Idealize.ShloMosaic.broadcastTo_apply _ _ _ (ix5 b (blk t) (0 : Fin 1) (0 : Fin 1) (0 : Fin 1)) ?_).trans ?_
  · intro a
    fin_cases a <;> rfl
  refine (Idealize.ShloMosaic.shapeCast_apply _ _ _ (ix3 b (blk t) (0 : Fin 1)) ?_).trans ?_
  · rw [Shape.rowMajor_val_three, Shape.rowMajor_val_five]
    show (b.val * 256 + t.val / 128) * 1 + 0 = (((b.val * 256 + t.val / 128) * 1 + 0) * 1 + 0) * 1 + 0
    omega
  rw [invV_at, pay7_at]

/-! ## The scales spread over the tokens -/

theorem pay16_at (v20 : FVec Ideal S2x256x8 .f32) (z : Fin 1) : k0_pay16 (F := Ideal) v20 (ix4 b t h z) = v20 (ix3 b (blk t) h) := by
  have hz : z = 0 := Subsingleton.elim _ _
  subst hz
  unfold k0_pay16
  refine (Idealize.ShloMosaic.shapeCast_apply _ _ _ (ix4 b (blk t) (⟨t.val % 128, Nat.mod_lt _ (by decide)⟩ : Fin 128) h) ?_).trans ?_
  · rw [Shape.rowMajor_val_four, Shape.rowMajor_val_four]
    show ((b.val * 256 + t.val / 128) * 128 + t.val % 128) * 8 + h.val = ((b.val * 32768 + t.val) * 8 + h.val) * 1 + 0
    omega
  refine (Idealize.ShloMosaic.broadcastTo_apply _ _ _ (ix4 b (blk t) (0 : Fin 1) h) ?_).trans ?_
  · intro a
    fin_cases a <;> rfl
  refine (Idealize.ShloMosaic.shapeCast_apply _ _ _ (ix4 b (blk t) (0 : Fin 1) h) rfl).trans ?_
  refine Idealize.ShloMosaic.shapeCast_apply _ _ _ (ix3 b (blk t) h) ?_
  rw [Shape.rowMajor_val_three, Shape.rowMajor_val_four]
  show (b.val * 256 + t.val / 128) * 8 + h.val = ((b.val * 256 + t.val / 128) * 1 + 0) * 8 + h.val
  omega

theorem spread_at (v54 : FVec Ideal S2x256x1 .f32) : broadcastTo S2x256x128 (shapeCast S2x256x1 v54 shapeCasts_S2x256x1_S2x256x1) broadcasts_S2x256x1_S2x256x128 (ix3 b n r) = v54 (ix3 b n (0 : Fin 1)) := by
  refine (Idealize.ShloMosaic.broadcastTo_apply _ _ _ (ix3 b n (0 : Fin 1)) ?_).trans ?_
  · intro a
    fin_cases a <;> rfl
  exact Idealize.ShloMosaic.shapeCast_apply _ _ _ (ix3 b n (0 : Fin 1)) rfl

theorem pay17_at (v54 : FVec Ideal S2x256x1 .f32) : k0_pay17 (F := Ideal) v54 (ix4 b (0 : Fin 1) (0 : Fin 1) t) = v54 (ix3 b (blk t) (0 : Fin 1)) := by
  unfold k0_pay17
  refine (Idealize.ShloMosaic.shapeCast_apply _ _ _ (ix3 b (blk t) (⟨t.val % 128, Nat.mod_lt _ (by decide)⟩ : Fin 128)) ?_).trans ?_
  · rw [Shape.rowMajor_val_three, Shape.rowMajor_val_four]
    show (b.val * 256 + t.val / 128) * 128 + t.val % 128 = ((b.val * 1 + 0) * 1 + 0) * 32768 + t.val
    omega
  exact spread_at b (blk t) _ v54

theorem pay18_at : k0_pay18 (F := Ideal) (k0_pay13 a1) (ix3 b n r) = kScl a1 b n :=
  (spread_at b n r (k0_pay14 (F := Ideal) (k0_pay13 a1))).trans (pay14_at a1 b n 0)

end Cert.ReferenceIdeal.Val
-- ==== Proof.RefAtt.lean ====
module

public import proofs.«01_k».proof.Proof.RefQuant
public import proofs.«01_k».proof.Proof.Soft
public import Idealize.ShloMosaic.Lib.WordCmp

@[expose] public section

@[expose] public section

set_option maxRecDepth 16384

noncomputable section

namespace Cert.ReferenceIdeal.Val

open Cert.ReferenceIdeal Cert.ReferenceIdeal.Gen Cert.Spec
open Idealize.ShloMosaic Idealize.ShloMosaic.TcCoe Idealize.ShloMosaic.Tactic

/-! ## The attention of the reference in four arrays -/

section
variable {F : FTy → Type} [FloatOps F] [Named F]

/-- The scaled scores of all queries against all keys. -/
def refA (v33 : FVec F S2x32768x8x64 .fp8e4m3) (v67 : FVec F S2x32768x1x64 .fp8e4m3) (v111 : FVec F S2x32768x8x1 .f32) (v114 : FVec F S2x1x1x32768 .f32) : FVec F S2x32768x8x32768 .f32 :=
  mulf (matmul dot_S2x32768x8x64_S2x32768x64_S2x32768x8x32768_3_2_12_1_0_0 none v33 (shapeCast S2x32768x64 v67 shapeCasts_S2x32768x1x64_S2x32768x64) (constant S2x32768x8x32768 .f32 0x00000000#32))
    (mulf (mulf (broadcastTo S2x32768x8x32768 v111 broadcasts_S2x32768x8x1_S2x32768x8x32768) (broadcastTo S2x32768x8x32768 v114 broadcasts_S2x1x1x32768_S2x32768x8x32768))
      (broadcast S2x32768x8x32768 (Scalar.ofBits .f32 0x3E000000#32 : F .f32)))

/-- The scores with the keys after the query masked. -/
def refS (x : FVec F S2x32768x8x32768 .f32) : FVec F S2x32768x8x32768 .f32 :=
  select (cmpi .sle (iota .tc S2x32768x8x32768 32 [3] iota_S2x32768x8x32768_d3_w32) (iota .tc S2x32768x8x32768 32 [1] iota_S2x32768x8x32768_d1_w32)) x
    (broadcast S2x32768x8x32768 (Scalar.ofBits .f32 0xFF800000#32 : F .f32))

/-- The exponentials of the scores less their largest. -/
def refE (s : FVec F S2x32768x8x32768 .f32) : FVec F S2x32768x8x32768 .f32 :=
  exp (subf s (broadcastTo S2x32768x8x32768 (shapeCast S2x32768x8x1 (multiReduction .maximumf [3] S2x32768x8 s 0xFF800000#32 reduces_S2x32768x8x32768_S2x32768x8 (.inl rfl) rfl)
    shapeCasts_S2x32768x8_S2x32768x8x1) broadcasts_S2x32768x8x1_S2x32768x8x32768))

/-- The dequantised values, over the 256 by which the probabilities are scaled. -/
def refV (v101 : FVec F S2x32768x1x64 .fp8e4m3) (v116 : FVec F S2x256x128 .f32) : FVec F S2x32768x64 .f32 :=
  mulf (extf .f32 (shapeCast S2x32768x64 v101 shapeCasts_S2x32768x1x64_S2x32768x64 : FVec F S2x32768x64 .fp8e4m3) bitsLt_fp8e4m3_f32)
    (broadcastTo S2x32768x64 (mulf (broadcast S2x32768x1 (Scalar.ofBits .f32 0x3B800000#32 : F .f32)) (shapeCast S2x32768x1 v116 shapeCasts_S2x256x128_S2x32768x1)) broadcasts_S2x32768x1_S2x32768x64)

/-- The weighted mean of the values. -/
def refO (e : FVec F S2x32768x8x32768 .f32) (v : FVec F S2x32768x64 .f32) : FVec F S2x32768x8x64 .f32 :=
  divf (matmul dot_S2x32768x8x32768_S2x32768x64_S2x32768x8x64_3_1_12_2_0_0 none
      (extf .f32 (clipV (mulf e (broadcast S2x32768x8x32768 (Scalar.ofBits .f32 0x43800000#32 : F .f32)))) bitsLt_fp8e4m3_f32) v (constant S2x32768x8x64 .f32 0x00000000#32))
    (broadcastTo S2x32768x8x64 (shapeCast S2x32768x8x1 (multiReduction .add [3] S2x32768x8 e 0x00000000#32 reduces_S2x32768x8x32768_S2x32768x8 (.inl rfl) rfl) shapeCasts_S2x32768x8_S2x32768x8x1) broadcasts_S2x32768x8x1_S2x32768x8x64)

theorem pay1_def (v33 : FVec F S2x32768x8x64 .fp8e4m3) (v67 v101 : FVec F S2x32768x1x64 .fp8e4m3) (v111 : FVec F S2x32768x8x1 .f32) (v114 : FVec F S2x1x1x32768 .f32) (v116 : FVec F S2x256x128 .f32) :
    k0_pay1 v33 v67 v101 v111 v114 v116 = truncf .bf16 (shapeCast S2x32768x512 (refO (refE (refS (refA v33 v67 v111 v114))) (refV v101 v116)) shapeCasts_S2x32768x8x64_S2x32768x512) bitsLt_bf16_f32 := rfl
end

variable (v33 : FVec Ideal S2x32768x8x64 .fp8e4m3) (v67 v101 : FVec Ideal S2x32768x1x64 .fp8e4m3) (v111 : FVec Ideal S2x32768x8x1 .f32) (v114 : FVec Ideal S2x1x1x32768 .f32) (v116 : FVec Ideal S2x256x128 .f32)
variable (b : Fin 2) (t k : Fin 32768) (h : Fin 8) (d : Fin 64) (s : FVec Ideal S2x32768x8x32768 .f32) (v : FVec Ideal S2x32768x64 .f32)

theorem refA_at : refA (F := Ideal) v33 v67 v111 v114 (ix4 b t h k) = (∑ x : Fin 64, v33 (ix4 b t h x) * v67 (ix4 b k (0 : Fin 1) x)) * (v111 (ix4 b t h (0 : Fin 1)) * v114 (ix4 b (0 : Fin 1) (0 : Fin 1) k) * ((1 / 8 : ℝ) : EReal)) := by
  pointwise [refA]
  rw [c_eighth]
theorem refS_at : refS (F := Ideal) s (ix4 b t h k) = if k.val ≤ t.val then s (ix4 b t h k) else ⊥ := by
  pointwise [refS]
  have h1 := k.isLt
  have h2 := t.isLt
  rw [c_ninf, WordCmp.cmpi_sle_ofNat (by omega) (by omega)]
  by_cases hc : k.val ≤ t.val
  · rw [if_pos hc, decide_eq_true hc]
    rfl
  · rw [if_neg hc, decide_eq_false hc]
    rfl
theorem refE_at : refE (F := Ideal) s (ix4 b t h k) = Ideal.exp (s (ix4 b t h k) - Finset.univ.fold max ⊥ fun x : Fin 32768 => s (ix4 b t h x)) := by
  pointwise [refE]
  rw [c_ninf]
theorem refV_at : refV (F := Ideal) v101 v116 (ix3 b k d) = v101 (ix4 b k (0 : Fin 1) d) * (((1 / 256 : ℝ) : EReal) * v116 (ix3 b (blk k) (⟨k.val % 128, Nat.mod_lt _ (by decide)⟩ : Fin 128))) := by
  pointwise [refV]
  rw [c_256th]
  rfl
theorem refO_at : refO (F := Ideal) s v (ix4 b t h d) = Ideal.div (∑ x : Fin 32768, clip (s (ix4 b t h x) * ((256 : ℝ) : EReal)) * v (ix3 b x d)) (∑ x : Fin 32768, s (ix4 b t h x)) := by
  pointwise [refO]
  refine congrArg (fun z => Ideal.div z (∑ x : Fin 32768, s (ix4 b t h x))) (Finset.sum_congr rfl fun x _ => congrArg (fun z : EReal => z * v (ix3 b x d)) ?_)
  rw [clipV_at, ← c_256]
  rfl

theorem refLast (o : FVec Ideal S2x32768x8x64 .f32) (e : Fin 512) : (truncf .bf16 (shapeCast S2x32768x512 o shapeCasts_S2x32768x8x64_S2x32768x512) bitsLt_bf16_f32 : FVec Ideal S2x32768x512 .bf16) (ix3 b t e) = o (ix4 b t (hd e) (fd e)) := by
  refine Idealize.ShloMosaic.shapeCast_apply o _ _ (ix4 b t (hd e) (fd e)) ?_
  rw [Shape.rowMajor_val_three, Shape.rowMajor_val_four]
  show ((b.val * 32768 + t.val) * 8 + e.val / 64) * 64 + e.val % 64 = (b.val * 32768 + t.val) * 512 + e.val
  omega

/-! ## The attention of the codes and scales -/

variable (a0 : Vec Ideal S2x32768x512 .bf16) (a1 a2 : Vec Ideal S2x32768x64 .bf16)

/-- The masked scores, of the codes and scales of the arguments. -/
def sV : FVec Ideal S2x32768x8x32768 .f32 :=
  refS (refA (k0_pay5 a0) (k0_pay11 (k0_pay6 a1) (k0_pay7 a1) (k0_pay8 a1)) (k0_pay16 (k0_pay4 a0)) (k0_pay17 (k0_pay10 (k0_pay7 a1) (k0_pay8 a1))))

theorem sV_at : sV a0 a1 (ix4 b t h k) = if k.val ≤ t.val then ((score a0 a1 b t h k : ℝ) : EReal) else ⊥ := by
  unfold sV
  rw [refS_at, refA_at, pay16_at, pay17_at, pay4_at, pay10_at]
  simp only [pay5_at, pay11_at]
  rw [qScl_coe, kScl_coe]
  simp only [qCod_coe, kCod_coe, ← EReal.coe_mul]
  rw [coe_sum, ← EReal.coe_mul]
  rfl

theorem out_at : refO (refE (sV a0 a1)) (refV (k0_pay15 (k0_pay12 a2) (k0_pay13 a2)) (k0_pay18 (F := Ideal) (k0_pay13 a2))) (ix4 b t h d) = ((yR a0 a1 a2 b t h d : ℝ) : EReal) := by
  rw [refO_at]
  have hv : ∀ x : Fin 32768, refV (F := Ideal) (k0_pay15 (k0_pay12 a2) (k0_pay13 a2)) (k0_pay18 (F := Ideal) (k0_pay13 a2)) (ix3 b x d)
      = ((rkC a2 b x d : ℝ) : EReal) * (((1 / 256 : ℝ) : EReal) * ((rkS a2 b (blk x) : ℝ) : EReal)) := fun x => by
    rw [refV_at, pay15_def, pay11_at, pay18_at, kCod_coe, kScl_coe]
  simp only [hv, refE_at]
  exact softmax (fun x : Fin 32768 => sV a0 a1 (ix4 b t h x)) (fun x => x.val ≤ t.val) (fun x => score a0 a1 b t h x) (fun x => sV_at b t x h a0 a1) ⟨t, le_refl _⟩
    (fun x => rkC a2 b x d) (fun x => rkS a2 b (blk x))

end Cert.ReferenceIdeal.Val
-- ==== Proof.RefRun.lean ====
/- The run of the reference: each result array is the payload stored into it, applied to the whole argument arrays. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S2x32768x512.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S2x32768x8x64.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2x256x8.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S2x32768x1x64.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2x256x1.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x32768x1x64.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S2x256x1.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_5) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_6) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_v0_3) = (dats m 0 c).arrAt 6 cfg0.N
      ∧ r.2.mem ((c : Thread nD τ).loc main_v0_4) = (dats m 0 c).arrAt 7 cfg0.N
      ∧ r.2.mem ((c : Thread nD τ).loc main_v0_5) = (dats m 0 c).arrAt 8 cfg0.N
      ∧ r.2.mem ((c : Thread nD τ).loc main_v0_6) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      post7 m r h c,
      post8 m r h c,
      post9 m r h c,
      kept_main_arg0 m r h c,
      kept_main_arg1 m r h c,
      kept_main_arg2 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x32768x512.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 32768 + 1 * (j 1).val = (j 1).val; omega
  | ⟨2, _⟩ => show win0_0.index t (2 : Fin 3) * 512 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x32768x64.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 32768 + 1 * (j 1).val = (j 1).val; omega
  | ⟨2, _⟩ => show win0_1.index t (2 : Fin 3) * 64 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S2x32768x64.Idx) : ((cfg0.win 2).blk t).view.emb j = j := by
  obtain ⟨e0, e1, e2⟩ := idx_zero2 t
  funext a; apply Fin.ext
  match a with
  | ⟨0, _⟩ => show win0_2.index t (0 : Fin 3) * 2 + 1 * (j 0).val = (j 0).val; omega
  | ⟨1, _⟩ => show win0_2.index t (1 : Fin 3) * 32768 + 1 * (j 1).val = (j 1).val; omega
  | ⟨2, _⟩ => show win0_2.index t (2 : Fin 3) * 64 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S2x32768x512.Idx) : ((cfg0.win 3).blk t).view.emb j = j := by
  obtain ⟨e0, e1, e2⟩ := idx_zero3 t
  funext a; apply Fin.ext
  match a with
  | ⟨0, _⟩ => show win0_3.index t (0 : Fin 3) * 2 + 1 * (j 0).val = (j 0).val; omega
  | ⟨1, _⟩ => show win0_3.index t (1 : Fin 3) * 32768 + 1 * (j 1).val = (j 1).val; omega
  | ⟨2, _⟩ => show win0_3.index t (2 : Fin 3) * 512 + 1 * (j 2).val = (j 2).val; omega

theorem hz4 : (![0, 0, 0, 0] : Fin 4 → Nat) = fun _ => 0 := funext fun a => by fin_cases a <;> rfl

/-- Window 4's block index at the one point is zero on every axis. -/
theorem idx_zero4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

/-- An index of window 4's block is the same index of its array. -/
theorem emb4 (t : Fin cfg0.N) (j : S2x32768x8x64.Idx) : ((cfg0.win 4).blk t).view.emb j = j := by
  obtain ⟨e0, e1, e2, e3⟩ := idx_zero4 t
  funext a; apply Fin.ext
  match a with
  | ⟨0, _⟩ => show win0_4.index t (0 : Fin 4) * 2 + 1 * (j 0).val = (j 0).val; omega
  | ⟨1, _⟩ => show win0_4.index t (1 : Fin 4) * 32768 + 1 * (j 1).val = (j 1).val; omega
  | ⟨2, _⟩ => show win0_4.index t (2 : Fin 4) * 8 + 1 * (j 2).val = (j 2).val; omega
  | ⟨3, _⟩ => show win0_4.index t (3 : Fin 4) * 64 + 1 * (j 3).val = (j 3).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S2x256x8.Idx) : ((cfg0.win 5).blk t).view.emb j = j := by
  obtain ⟨e0, e1, e2⟩ := idx_zero5 t
  funext a; apply Fin.ext
  match a with
  | ⟨0, _⟩ => show win0_5.index t (0 : Fin 3) * 2 + 1 * (j 0).val = (j 0).val; omega
  | ⟨1, _⟩ => show win0_5.index t (1 : Fin 3) * 256 + 1 * (j 1).val = (j 1).val; omega
  | ⟨2, _⟩ => show win0_5.index t (2 : Fin 3) * 8 + 1 * (j 2).val = (j 2).val; omega

theorem hz6 : (![0, 0, 0, 0] : Fin 4 → Nat) = fun _ => 0 := funext fun a => by fin_cases a <;> rfl

/-- Window 6's block index at the one point is zero on every axis. -/
theorem idx_zero6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

/-- An index of window 6's block is the same index of its array. -/
theorem emb6 (t : Fin cfg0.N) (j : S2x32768x1x64.Idx) : ((cfg0.win 6).blk t).view.emb j = j := by
  obtain ⟨e0, e1, e2, e3⟩ := idx_zero6 t
  funext a; apply Fin.ext
  match a with
  | ⟨0, _⟩ => show win0_6.index t (0 : Fin 4) * 2 + 1 * (j 0).val = (j 0).val; omega
  | ⟨1, _⟩ => show win0_6.index t (1 : Fin 4) * 32768 + 1 * (j 1).val = (j 1).val; omega
  | ⟨2, _⟩ => show win0_6.index t (2 : Fin 4) * 1 + 1 * (j 2).val = (j 2).val; omega
  | ⟨3, _⟩ => show win0_6.index t (3 : Fin 4) * 64 + 1 * (j 3).val = (j 3).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S2x256x1.Idx) : ((cfg0.win 7).blk t).view.emb j = j := by
  obtain ⟨e0, e1, e2⟩ := idx_zero7 t
  funext a; apply Fin.ext
  match a with
  | ⟨0, _⟩ => show win0_7.index t (0 : Fin 3) * 2 + 1 * (j 0).val = (j 0).val; omega
  | ⟨1, _⟩ => show win0_7.index t (1 : Fin 3) * 256 + 1 * (j 1).val = (j 1).val; omega
  | ⟨2, _⟩ => show win0_7.index t (2 : Fin 3) * 1 + 1 * (j 2).val = (j 2).val; omega

theorem hz8 : (![0, 0, 0, 0] : Fin 4 → Nat) = fun _ => 0 := funext fun a => by fin_cases a <;> rfl

/-- Window 8's block index at the one point is zero on every axis. -/
theorem idx_zero8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

/-- An index of window 8's block is the same index of its array. -/
theorem emb8 (t : Fin cfg0.N) (j : S2x32768x1x64.Idx) : ((cfg0.win 8).blk t).view.emb j = j := by
  obtain ⟨e0, e1, e2, e3⟩ := idx_zero8 t
  funext a; apply Fin.ext
  match a with
  | ⟨0, _⟩ => show win0_8.index t (0 : Fin 4) * 2 + 1 * (j 0).val = (j 0).val; omega
  | ⟨1, _⟩ => show win0_8.index t (1 : Fin 4) * 32768 + 1 * (j 1).val = (j 1).val; omega
  | ⟨2, _⟩ => show win0_8.index t (2 : Fin 4) * 1 + 1 * (j 2).val = (j 2).val; omega
  | ⟨3, _⟩ => show win0_8.index t (3 : Fin 4) * 64 + 1 * (j 3).val = (j 3).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S2x256x1.Idx) : ((cfg0.win 9).blk t).view.emb j = j := by
  obtain ⟨e0, e1, e2⟩ := idx_zero9 t
  funext a; apply Fin.ext
  match a with
  | ⟨0, _⟩ => show win0_9.index t (0 : Fin 3) * 2 + 1 * (j 0).val = (j 0).val; omega
  | ⟨1, _⟩ => show win0_9.index t (1 : Fin 3) * 256 + 1 * (j 1).val = (j 1).val; omega
  | ⟨2, _⟩ => show win0_9.index t (2 : Fin 3) * 1 + 1 * (j 2).val = (j 2).val; omega

/-! ### Output window 3: the array after the run -/

/-- What the window's array ends holding: `out0_3` applied to the argument arrays in place of the input blocks (a value that the
    frame states apart, `kK_payN a…`, keeps its loads inside its own definition). -/
abbrev G3 (a0 : Vec F S2x32768x512 .bf16) (a1 : Vec F S2x32768x64 .bf16) (a2 : Vec F S2x32768x64 .bf16) : Vec F S2x32768x512 .bf16 :=
  k0_pay1 (k0_pay20 a0 a1 a2) (k0_pay24 a0 a1 a2) (k0_pay15 (k0_pay25 a0 a1 a2) (k0_pay26 a0 a1 a2)) (k0_pay16 (k0_pay19 a0 a1 a2)) (k0_pay17 (k0_pay23 a0 a1 a2)) (k0_pay18 (F := F) (k0_pay26 a0 a1 a2))

/-- The one store through the whole rectangle leaves its payload. -/
theorem out3_eq (a0 : Vec F S2x32768x512 .bf16) (a1 : Vec F S2x32768x64 .bf16) (a2 : Vec F S2x32768x64 .bf16) : out0_3 (F := F) a0 a1 a2 = G3 a0 a1 a2 := by
  unfold out0_3
  rw [View.canon_unit_zero hz3]

/-- Cutting the point's block out of `X` and reading `X` through the block's view give the same. -/
theorem cut3_eq (t : Fin cfg0.N) (X : Vec F S2x32768x512 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S2x32768x512.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S2x32768x512 .bf16) (a1 : Vec F S2x32768x64 .bf16) (a2 : Vec F S2x32768x64 .bf16) : Vec F S2x32768x8x64 .fp8e4m3 :=
  k0_pay20 a0 a1 a2

/-- The one store through the whole rectangle leaves its payload. -/
theorem out4_eq (a0 : Vec F S2x32768x512 .bf16) (a1 : Vec F S2x32768x64 .bf16) (a2 : Vec F S2x32768x64 .bf16) : out0_4 (F := F) a0 a1 a2 = G4 a0 a1 a2 := by
  unfold out0_4
  rw [View.canon_unit_zero hz4]

/-- Cutting the point's block out of `X` and reading `X` through the block's view give the same. -/
theorem cut4_eq (t : Fin cfg0.N) (X : Vec F S2x32768x8x64 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S2x32768x8x64.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S2x32768x512 .bf16) (a1 : Vec F S2x32768x64 .bf16) (a2 : Vec F S2x32768x64 .bf16) : Vec F S2x256x8 .f32 :=
  k0_pay19 a0 a1 a2

/-- The one store through the whole rectangle leaves its payload. -/
theorem out5_eq (a0 : Vec F S2x32768x512 .bf16) (a1 : Vec F S2x32768x64 .bf16) (a2 : Vec F S2x32768x64 .bf16) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S2x256x8 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S2x256x8.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S2x32768x512 .bf16) (a1 : Vec F S2x32768x64 .bf16) (a2 : Vec F S2x32768x64 .bf16) : Vec F S2x32768x1x64 .fp8e4m3 :=
  k0_pay24 a0 a1 a2

/-- The one store through the whole rectangle leaves its payload. -/
theorem out6_eq (a0 : Vec F S2x32768x512 .bf16) (a1 : Vec F S2x32768x64 .bf16) (a2 : Vec F S2x32768x64 .bf16) : out0_6 (F := F) a0 a1 a2 = G6 a0 a1 a2 := by
  unfold out0_6
  rw [View.canon_unit_zero hz6]

/-- Cutting the point's block out of `X` and reading `X` through the block's view give the same. -/
theorem cut6_eq (t : Fin cfg0.N) (X : Vec F S2x32768x1x64 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S2x32768x1x64.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ### Output window 7: the array after the run -/

/-- What the window's array ends holding: `out0_7` applied to the argument arrays in place of the input blocks (a value that the
    frame states apart, `kK_payN a…`, keeps its loads inside its own definition). -/
abbrev G7 (a0 : Vec F S2x32768x512 .bf16) (a1 : Vec F S2x32768x64 .bf16) (a2 : Vec F S2x32768x64 .bf16) : Vec F S2x256x1 .f32 :=
  k0_pay23 a0 a1 a2

/-- The one store through the whole rectangle leaves its payload. -/
theorem out7_eq (a0 : Vec F S2x32768x512 .bf16) (a1 : Vec F S2x32768x64 .bf16) (a2 : Vec F S2x32768x64 .bf16) : out0_7 (F := F) a0 a1 a2 = G7 a0 a1 a2 := by
  unfold out0_7
  rw [View.canon_unit_zero hz7]

/-- Cutting the point's block out of `X` and reading `X` through the block's view give the same. -/
theorem cut7_eq (t : Fin cfg0.N) (X : Vec F S2x256x1 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

/-- Every index of the array is in the point's block. -/
theorem covered7 (i : S2x256x1.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-! ### Output window 8: the array after the run -/

/-- What the window's array ends holding: `out0_8` applied to the argument arrays in place of the input blocks (a value that the
    frame states apart, `kK_payN a…`, keeps its loads inside its own definition). -/
abbrev G8 (a0 : Vec F S2x32768x512 .bf16) (a1 : Vec F S2x32768x64 .bf16) (a2 : Vec F S2x32768x64 .bf16) : Vec F S2x32768x1x64 .fp8e4m3 :=
  k0_pay15 (k0_pay25 a0 a1 a2) (k0_pay26 a0 a1 a2)

/-- The one store through the whole rectangle leaves its payload. -/
theorem out8_eq (a0 : Vec F S2x32768x512 .bf16) (a1 : Vec F S2x32768x64 .bf16) (a2 : Vec F S2x32768x64 .bf16) : out0_8 (F := F) a0 a1 a2 = G8 a0 a1 a2 := by
  unfold out0_8
  rw [View.canon_unit_zero hz8]

/-- Cutting the point's block out of `X` and reading `X` through the block's view give the same. -/
theorem cut8_eq (t : Fin cfg0.N) (X : Vec F S2x32768x1x64 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2)) := by
  show (cfg0.win 8).cut (grid0.coords t) ((dats m 0 c).after 8 t) = _
  rw [after0_8, out8_eq, iblk0_eq, iblk1_eq, iblk2_eq]
  exact cut8_eq t _

/-- Every index of the array is in the point's block. -/
theorem covered8 (i : S2x32768x1x64.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) :=
  ((dats m 0 c).arrAt_eq_of_cover 8 (G8 (V m c main_arg0) (V m c main_arg1) (V m c main_arg2)) (fun t _ => flushed8_eq m c t) covered8).trans (by rw [V_main_arg0, V_main_arg1, V_main_arg2])

/-! ### Output window 9: the array after the run -/

/-- What the window's array ends holding: `out0_9` applied to the argument arrays in place of the input blocks (a value that the
    frame states apart, `kK_payN a…`, keeps its loads inside its own definition). -/
abbrev G9 (a0 : Vec F S2x32768x512 .bf16) (a1 : Vec F S2x32768x64 .bf16) (a2 : Vec F S2x32768x64 .bf16) : Vec F S2x256x1 .f32 :=
  k0_pay14 (F := F) (k0_pay26 a0 a1 a2)

/-- The one store through the whole rectangle leaves its payload. -/
theorem out9_eq (a0 : Vec F S2x32768x512 .bf16) (a1 : Vec F S2x32768x64 .bf16) (a2 : Vec F S2x32768x64 .bf16) : out0_9 (F := F) a0 a1 a2 = G9 a0 a1 a2 := by
  unfold out0_9
  rw [View.canon_unit_zero hz9]

/-- Cutting the point's block out of `X` and reading `X` through the block's view give the same. -/
theorem cut9_eq (t : Fin cfg0.N) (X : Vec F S2x256x1 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2)) := by
  show (cfg0.win 9).cut (grid0.coords t) ((dats m 0 c).after 9 t) = _
  rw [after0_9, out9_eq, iblk0_eq, iblk1_eq, iblk2_eq]
  exact cut9_eq t _

/-- Every index of the array is in the point's block. -/
theorem covered9 (i : S2x256x1.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) :=
  ((dats m 0 c).arrAt_eq_of_cover 9 (G9 (V m c main_arg0) (V m c main_arg1) (V m c main_arg2)) (fun t _ => flushed9_eq m c t) covered9).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_v0_5) = G8 (m ((c : Thread nD τ).loc main_arg0)) (m ((c : Thread nD τ).loc main_arg1)) (m ((c : Thread nD τ).loc main_arg2))
      ∧ r.2.mem ((c : Thread nD τ).loc main_v0_6) = G9 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c⟩)
    (run_main m ρ)

end Cert.ReferenceIdeal.Value

end
-- ==== Proof.RefVal.lean ====
module

public import proofs.«01_k».proof.Proof.RefAtt
public import proofs.«01_k».proof.Proof.RefRun

@[expose] public section

@[expose] public section

set_option maxRecDepth 16384

noncomputable section

namespace Cert.ReferenceIdeal.Val

open Cert.ReferenceIdeal Cert.ReferenceIdeal.Gen Cert.ReferenceIdeal.Value Cert.Spec
open Idealize.ShloMosaic Idealize.ShloMosaic.TcCoe Idealize.ShloMosaic.Tactic
open Idealize.SL.Sem

/-! ## The seven results of the reference -/

section
variable {F : FTy → Type} [FloatOps F] [Named F]
theorem ld0 (x : Vec F S2x32768x512 .bf16) : View.ld x r0_0 = x := by
  funext i
  refine congrArg x ?_
  funext a
  apply Fin.ext
  fin_cases a
  · show 0 + 1 * (i 0).val = (i 0).val
    omega
  · show 0 + 1 * (i 1).val = (i 1).val
    omega
  · show 0 + 1 * (i 2).val = (i 2).val
    omega
theorem ld1 (x : Vec F S2x32768x64 .bf16) : View.ld x r0_1 = x := by
  funext i
  refine congrArg x ?_
  funext a
  apply Fin.ext
  fin_cases a
  · show 0 + 1 * (i 0).val = (i 0).val
    omega
  · show 0 + 1 * (i 1).val = (i 1).val
    omega
  · show 0 + 1 * (i 2).val = (i 2).val
    omega
end

theorem ext3 {A B C : ℕ} {f g : (⟨3, ![A, B, C]⟩ : Shape).Idx → EReal} (h : ∀ (a : Fin A) (b : Fin B) (c : Fin C), f (ix3 a b c) = g (ix3 a b c)) : f = g := by
  funext i
  have e : i = ix3 (i 0 : Fin A) (i 1 : Fin B) (i 2 : Fin C) := by
    funext a
    fin_cases a <;> rfl
  exact ((congrArg f e).trans (h _ _ _)).trans (congrArg g e).symm
theorem ext4 {A B C D : ℕ} {f g : (⟨4, ![A, B, C, D]⟩ : Shape).Idx → EReal} (h : ∀ (a : Fin A) (b : Fin B) (c : Fin C) (d : Fin D), f (ix4 a b c d) = g (ix4 a b c d)) : f = g := by
  funext i
  have e : i = ix4 (i 0 : Fin A) (i 1 : Fin B) (i 2 : Fin C) (i 3 : Fin D) := by
    funext a
    fin_cases a <;> rfl
  exact ((congrArg f e).trans (h _ _ _ _)).trans (congrArg g e).symm

variable (a0 : Vec Ideal S2x32768x512 .bf16) (a1 a2 : Vec Ideal S2x32768x64 .bf16)

theorem G4_eq : G4 (F := Ideal) a0 a1 a2 = resQC a0 := by
  unfold G4 k0_pay20
  rw [ld0]
  exact ext4 (A := 2) (B := 32768) (C := 8) (D := 64) fun b t h d => pay5_at a0 b t h d
theorem G5_eq : G5 (F := Ideal) a0 a1 a2 = resQS a0 := by
  unfold G5 k0_pay19
  rw [ld0]
  exact ext3 (A := 2) (B := 256) (C := 8) fun b n h => pay4_at a0 b n h
theorem G6_eq : G6 (F := Ideal) a0 a1 a2 = resKC a1 := by
  unfold G6 k0_pay24 k0_pay21 k0_pay22
  rw [ld1]
  exact ext4 (A := 2) (B := 32768) (C := 1) (D := 64) fun b t z d => pay11_at a1 b t d z
theorem G7_eq : G7 (F := Ideal) a0 a1 a2 = resKS a1 := by
  unfold G7 k0_pay23 k0_pay21 k0_pay22
  rw [ld1]
  exact ext3 (A := 2) (B := 256) (C := 1) fun b n z => pay10_at a1 b n z
theorem G8_eq : G8 (F := Ideal) a0 a1 a2 = resKC a2 := by
  unfold G8 k0_pay25 k0_pay26
  rw [ld1, pay15_def]
  exact ext4 (A := 2) (B := 32768) (C := 1) (D := 64) fun b t z d => pay11_at a2 b t d z
theorem G9_eq : G9 (F := Ideal) a0 a1 a2 = resKS a2 := by
  unfold G9 k0_pay26
  rw [ld1]
  exact ext3 (A := 2) (B := 256) (C := 1) fun b n z => pay14_at a2 b n z
theorem G3_eq : G3 (F := Ideal) a0 a1 a2 = resY a0 a1 a2 := by
  unfold G3 k0_pay20 k0_pay24 k0_pay25 k0_pay26 k0_pay19 k0_pay23 k0_pay21 k0_pay22
  rw [ld0, ld1, ld1, pay1_def]
  exact ext3 (A := 2) (B := 32768) (C := 512) fun b t e => (refLast b t _ e).trans (out_at b t (hd e) (fd e) a0 a1 a2)

variable (m : (ℓ : Loc nD τ sig) → Buf (Elt Ideal) ℓ) (ρ : Dev nD → PrngReg)

/-- The arguments of the reference. -/
abbrev B0 (c : Dev nD) : Vec Ideal S2x32768x512 .bf16 := m ((c : Thread nD τ).loc main_arg0)
abbrev B1 (c : Dev nD) : Vec Ideal S2x32768x64 .bf16 := m ((c : Thread nD τ).loc main_arg1)
abbrev B2 (c : Dev nD) : Vec Ideal S2x32768x64 .bf16 := m ((c : Thread nD τ).loc main_arg2)

/-- The run of the reference: its seven results are the stated functions of its arguments, which it leaves unchanged. -/
theorem run : θ_run defs (onTc (τ := τ) (main (F := Ideal))) ⟨m, fun _ => 0, ρ⟩ fun r => ∀ c : Dev nD,
      r.2.mem ((c : Thread nD τ).loc main_v0_0) = resY (B0 m c) (B1 m c) (B2 m c)
      ∧ r.2.mem ((c : Thread nD τ).loc main_v0_1) = resQC (B0 m c)
      ∧ r.2.mem ((c : Thread nD τ).loc main_v0_2) = resQS (B0 m c)
      ∧ r.2.mem ((c : Thread nD τ).loc main_v0_3) = resKC (B1 m c)
      ∧ r.2.mem ((c : Thread nD τ).loc main_v0_4) = resKS (B1 m c)
      ∧ r.2.mem ((c : Thread nD τ).loc main_v0_5) = resKC (B2 m c)
      ∧ r.2.mem ((c : Thread nD τ).loc main_v0_6) = resKS (B2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨h0, h1, h2, h3, h4, h5, h6, h7⟩ := h c
    exact ⟨h0.trans (G3_eq _ _ _), h1.trans (G4_eq _ _ _), h2.trans (G5_eq _ _ _), h3.trans (G6_eq _ _ _), h4.trans (G7_eq _ _ _), h5.trans (G8_eq _ _ _), h6.trans (G9_eq _ _ _), h7⟩)
    (Value.run m ρ)

end Cert.ReferenceIdeal.Val
-- ==== Proof.lean ====
/- The proof of the claim: the four programs run and leave their arguments unchanged, the ideal programs differ from the
   printed ones in named constants only, and the ideal kernel and the ideal reference have equal results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.KRun
public import proofs.«01_k».proof.Proof.RefVal
public import Idealize.ShloMosaic.Adequacy
public import Idealize.ShloMosaic.Init

@[expose] public section

noncomputable section

namespace Cert.Proof

open Idealize.ShloMosaic Idealize.SL.Sem Cert.Kernel

/-- The ideal kernel and the ideal reference, run on the same arguments, end with the same seven results. -/
theorem results_eq : Cert.algebraic_KernelIdeal_ReferenceIdeal (hKernelIdeal := Cert.KernelIdeal.Gen.facts) (hReferenceIdeal := Cert.ReferenceIdeal.Gen.facts) := by
  intro m g m' g' _ hm
  refine ⟨fun c => Cert.Spec.resY (KernelIdeal.Val.A0 m c) (KernelIdeal.Val.A1 m c) (KernelIdeal.Val.A2 m c), fun c => Cert.Spec.resQC (KernelIdeal.Val.A0 m c),
    fun c => Cert.Spec.resQS (KernelIdeal.Val.A0 m c), fun c => Cert.Spec.resKC (KernelIdeal.Val.A1 m c), fun c => Cert.Spec.resKS (KernelIdeal.Val.A1 m c),
    fun c => Cert.Spec.resKC (KernelIdeal.Val.A2 m c), fun c => Cert.Spec.resKS (KernelIdeal.Val.A2 m c), KernelIdeal.Val.run m g, ?_⟩
  refine (θ_run _ _ _).mono (fun r h c => ?_) (ReferenceIdeal.Val.run m' g')
  obtain ⟨h0, h1, h2, h3, h4, h5, h6, h7⟩ := h c
  have e0 : ReferenceIdeal.Val.B0 m' c = KernelIdeal.Val.A0 m c := (hm c).1
  have e1 : ReferenceIdeal.Val.B1 m' c = KernelIdeal.Val.A1 m c := (hm c).2.1
  have e2 : ReferenceIdeal.Val.B2 m' c = KernelIdeal.Val.A2 m c := (hm c).2.2
  rw [e0, e1, e2] at h0
  rw [e0] at h1 h2
  rw [e1] at h3 h4
  rw [e2] at h5 h6
  exact ⟨h0, h1, h2, h3, h4, h5, h6, h7⟩

/-- The constants named in the kernel stand for the numbers they are named after. -/
theorem kernel_constants : Cert.preserves_Kernel_KernelIdeal :=
  ⟨IdealRules.named_const.statement Cert.KernelIdeal.κ "inv_ln2" .f32 0x3FB8AA3B#32 _ rfl, IdealRules.named_const.statement Cert.KernelIdeal.κ "sm_log2e" .f32 0x3E38AA3B#32 _ rfl⟩

/-- The constant named in the reference stands for the number it is named after. -/
theorem reference_constants : Cert.preserves_Reference_ReferenceIdeal :=
  IdealRules.named_const.statement Cert.ReferenceIdeal.κ "inv_ln2" .f32 0x3FB8AA3B#32 _ rfl

/-- Everything that is claimed. -/
theorem claim : Cert.Claim := ⟨Cert.Kernel.Gen.facts, Cert.KernelIdeal.Gen.facts, Cert.ReferenceIdeal.Gen.facts, Cert.Reference.Gen.facts,
  fun m g _ => Cert.Kernel.Gen.frame m g, fun m g _ => Cert.KernelIdeal.Gen.frame m g, fun m g _ => Cert.ReferenceIdeal.Gen.frame m g, fun m g _ => Cert.Reference.Gen.frame m g,
  kernel_constants, reference_constants, results_eq⟩

end Cert.Proof

end
